-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 512]⟩ ⟨2, ![1024, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v64) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x256 : Shape := ⟨2, ![1024, 256]⟩
abbrev S256x32 : Shape := ⟨2, ![256, 32]⟩
abbrev S1024x2 : Shape := ⟨2, ![1024, 2]⟩
abbrev S4x256x512 : Shape := ⟨3, ![4, 256, 512]⟩
abbrev S_ : Shape := ⟨0, ![]⟩

class Facts : Prop where
  bcast_S_S1024x256 : S_.BroadcastsInDim S1024x256 (![] : Fin 0 → Fin S1024x256.rank)
  bcast_S_S256x32 : S_.BroadcastsInDim S256x32 (![] : Fin 0 → Fin S256x32.rank)

variable [Facts]

def fn {F : FTy → Type} [FloatOps F] (main_arg0 : FVec F S1024x256 .bf16) (main_arg1 : FVec F S256x32 .bf16) (main_arg2 : IVec S1024x2 32) (main_arg3 : FVec F S4x256x512 .bf16) : IVec S1024x256 1 × IVec S256x32 1 :=
  let main_v0 : FVec F S1024x256 .bf16 := Host.absf main_arg0
  let main_cst : FVec F S_ .bf16 := constant S_ .bf16 0x7F80#16
  let main_v1 : FVec F S1024x256 .bf16 := broadcastInDim S1024x256 ![] bcast_S_S1024x256 main_cst
  let main_v2 : IVec S1024x256 1 := cmpf .olt main_v0 main_v1
  let main_v3 : FVec F S256x32 .bf16 := Host.absf main_arg1
  let main_cst_0 : FVec F S_ .bf16 := constant S_ .bf16 0x7F80#16
  let main_v4 : FVec F S256x32 .bf16 := broadcastInDim S256x32 ![] bcast_S_S256x32 main_cst_0
  let main_v5 : IVec S256x32 1 := cmpf .olt main_v3 main_v4
  (main_v2, main_v5)
-- ==== Pre_finite_ReferenceIdeal.lean ====
abbrev S1024x256 : Shape := ⟨2, ![1024, 256]⟩
abbrev S256x32 : Shape := ⟨2, ![256, 32]⟩
abbrev S1024x2 : Shape := ⟨2, ![1024, 2]⟩
abbrev S32x256x512 : Shape := ⟨3, ![32, 256, 512]⟩
abbrev S_ : Shape := ⟨0, ![]⟩

class Facts : Prop where
  bcast_S_S1024x256 : S_.BroadcastsInDim S1024x256 (![] : Fin 0 → Fin S1024x256.rank)
  bcast_S_S256x32 : S_.BroadcastsInDim S256x32 (![] : Fin 0 → Fin S256x32.rank)

variable [Facts]

def fn {F : FTy → Type} [FloatOps F] (main_arg0 : FVec F S1024x256 .bf16) (main_arg1 : FVec F S256x32 .bf16) (main_arg2 : IVec S1024x2 32) (main_arg3 : FVec F S32x256x512 .bf16) : IVec S1024x256 1 × IVec S256x32 1 :=
  let main_v0 : FVec F S1024x256 .bf16 := Host.absf main_arg0
  let main_cst : FVec F S_ .bf16 := constant S_ .bf16 0x7F80#16
  let main_v1 : FVec F S1024x256 .bf16 := broadcastInDim S1024x256 ![] bcast_S_S1024x256 main_cst
  let main_v2 : IVec S1024x256 1 := cmpf .olt main_v0 main_v1
  let main_v3 : FVec F S256x32 .bf16 := Host.absf main_arg1
  let main_cst_0 : FVec F S_ .bf16 := constant S_ .bf16 0x7F80#16
  let main_v4 : FVec F S256x32 .bf16 := broadcastInDim S256x32 ![] bcast_S_S256x32 main_cst_0
  let main_v5 : IVec S256x32 1 := cmpf .olt main_v3 main_v4
  (main_v2, main_v5)
-- ==== Kernel.lean ====
abbrev S1024x256 : Shape := ⟨2, ![1024, 256]⟩
abbrev S256x32 : Shape := ⟨2, ![256, 32]⟩
abbrev S1024x2 : Shape := ⟨2, ![1024, 2]⟩
abbrev S4x256x512 : Shape := ⟨3, ![4, 256, 512]⟩
abbrev S128x512 : Shape := ⟨2, ![128, 512]⟩
abbrev S1024x4 : Shape := ⟨2, ![1024, 4]⟩
abbrev S8x128x512 : Shape := ⟨3, ![8, 128, 512]⟩
abbrev S8 : Shape := ⟨1, ![8]⟩
abbrev S_ : Shape := ⟨0, ![]⟩
abbrev S1024x32 : Shape := ⟨2, ![1024, 32]⟩
abbrev S1024 : Shape := ⟨1, ![1024]⟩
abbrev S1024x1 : Shape := ⟨2, ![1024, 1]⟩
abbrev S128x256 : Shape := ⟨2, ![128, 256]⟩
abbrev S128x4 : Shape := ⟨2, ![128, 4]⟩
abbrev S128x1 : Shape := ⟨2, ![128, 1]⟩
abbrev S1x256x512 : Shape := ⟨3, ![1, 256, 512]⟩
abbrev S256x512 : Shape := ⟨2, ![256, 512]⟩
abbrev S1x128x512 : Shape := ⟨3, ![1, 128, 512]⟩
abbrev S1 : Shape := ⟨1, ![1]⟩

abbrev nBuf : Space → Nat
  | .hbm => 5
  | .vmem => 8
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x2, .i32⟩
  | .hbm, ⟨3, _⟩ => ⟨S4x256x512, .bf16⟩
  | .hbm, ⟨4, _⟩ => ⟨S128x512, .f32⟩
  | .local _ .vmem, ⟨0, _⟩ => ⟨S1024x256, .bf16⟩
  | .local _ .vmem, ⟨1, _⟩ => ⟨S256x32, .bf16⟩
  | .local _ .vmem, ⟨2, _⟩ => ⟨S1024x2, .i32⟩
  | .local _ .vmem, ⟨3, _⟩ => ⟨S4x256x512, .bf16⟩
  | .local _ .vmem, ⟨4, _⟩ => ⟨S128x512, .f32⟩
  | .local _ .vmem, ⟨5, _⟩ => ⟨S1024x4, .f32⟩
  | .local _ .vmem, ⟨6, _⟩ => ⟨S8x128x512, .bf16⟩
  | .local _ .vmem, ⟨7, _⟩ => ⟨S8x128x512, .bf16⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_50 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v118 : BitVec 32 := Scalar.addi v2 c1_i32_50
  let c8_i32_51 : BitVec 32 := 8#32
  let v119 : BitVec 32 := Scalar.remsi v118 c8_i32_51
  let c128_i32 : BitVec 32 := 128#32
  let v120 : BitVec 32 := Scalar.muli v119 c128_i32
  let v121 : Index := Scalar.indexCast v120
  let c0_52 : Index := 0#32
  ![v121.toNat, 0]
def k0_off2 (d0 : Dev nD) (c1_i32_50 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v118 : BitVec 32 := Scalar.addi v2 c1_i32_50
  let c8_i32_51 : BitVec 32 := 8#32
  let v119 : BitVec 32 := Scalar.remsi v118 c8_i32_51
  let c128_i32_53 : BitVec 32 := 128#32
  let v124 : BitVec 32 := Scalar.muli v119 c128_i32_53
  let v125 : Index := Scalar.indexCast v124
  let c0_54 : Index := 0#32
  ![v125.toNat, 0]
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_50 : BitVec 32 := 1#32
  let v118 : BitVec 32 := Scalar.addi v2 c1_i32_50
  let c8_i32_51 : BitVec 32 := 8#32
  let v119 : BitVec 32 := Scalar.remsi v118 c8_i32_51
  let c1_i32_77 : BitVec 32 := 1#32
  let v168 : BitVec 32 := Scalar.muli v119 c1_i32_77
  let v169 : BitVec 32 := Scalar.addi c0_i32_78 v168
  v169.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_83 : BitVec 32 := 2#32
  let v178 : BitVec 32 := Scalar.addi v2 c2_i32_83
  let c8_i32_84 : BitVec 32 := 8#32
  let v179 : BitVec 32 := Scalar.remsi v178 c8_i32_84
  let c1_i32_113 : BitVec 32 := 1#32
  let v228 : BitVec 32 := Scalar.muli v179 c1_i32_113
  let v229 : BitVec 32 := Scalar.addi c0_i32_114 v228
  v229.toNat
def k0_dev10 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_119 : BitVec 32 := 3#32
  let v238 : BitVec 32 := Scalar.addi v2 c3_i32_119
  let c8_i32_120 : BitVec 32 := 8#32
  let v239 : BitVec 32 := Scalar.remsi v238 c8_i32_120
  let c1_i32_149 : BitVec 32 := 1#32
  let v288 : BitVec 32 := Scalar.muli v239 c1_i32_149
  let v289 : BitVec 32 := Scalar.addi c0_i32_150 v288
  v289.toNat
def k0_dev11 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_155 : BitVec 32 := 4#32
  let v298 : BitVec 32 := Scalar.addi v2 c4_i32_155
  let c8_i32_156 : BitVec 32 := 8#32
  let v299 : BitVec 32 := Scalar.remsi v298 c8_i32_156
  let c1_i32_184 : BitVec 32 := 1#32
  let v348 : BitVec 32 := Scalar.muli v299 c1_i32_184
  let v349 : BitVec 32 := Scalar.addi c0_i32_185 v348
  v349.toNat
def k0_dev12 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_190 : BitVec 32 := 5#32
  let v358 : BitVec 32 := Scalar.addi v2 c5_i32_190
  let c8_i32_191 : BitVec 32 := 8#32
  let v359 : BitVec 32 := Scalar.remsi v358 c8_i32_191
  let c1_i32_219 : BitVec 32 := 1#32
  let v408 : BitVec 32 := Scalar.muli v359 c1_i32_219
  let v409 : BitVec 32 := Scalar.addi c0_i32_220 v408
  v409.toNat
def k0_dev13 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_225 : BitVec 32 := 6#32
  let v418 : BitVec 32 := Scalar.addi v2 c6_i32_225
  let c8_i32_226 : BitVec 32 := 8#32
  let v419 : BitVec 32 := Scalar.remsi v418 c8_i32_226
  let c1_i32_254 : BitVec 32 := 1#32
  let v468 : BitVec 32 := Scalar.muli v419 c1_i32_254
  let v469 : BitVec 32 := Scalar.addi c0_i32_255 v468
  v469.toNat
def k0_dev14 (d0 : Dev nD) : Nat :=
  let c0_i32_290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_260 : BitVec 32 := 7#32
  let v478 : BitVec 32 := Scalar.addi v2 c7_i32_260
  let c8_i32_261 : BitVec 32 := 8#32
  let v479 : BitVec 32 := Scalar.remsi v478 c8_i32_261
  let c1_i32_289 : BitVec 32 := 1#32
  let v528 : BitVec 32 := Scalar.muli v479 c1_i32_289
  let v529 : BitVec 32 := Scalar.addi c0_i32_290 v528
  v529.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_295 : BitVec 32 := 128#32
  let v538 : BitVec 32 := Scalar.muli v2 c128_i32_295
  let v539 : Index := Scalar.indexCast v538
  let c0_296 : Index := 0#32
  ![v539.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_297 : BitVec 32 := 128#32
  let v542 : BitVec 32 := Scalar.muli v2 c128_i32_297
  let v543 : Index := Scalar.indexCast v542
  let c0_298 : Index := 0#32
  ![v543.toNat, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x256 : Shape := ⟨2, ![1024, 256]⟩
abbrev S256x32 : Shape := ⟨2, ![256, 32]⟩
abbrev S1024x2 : Shape := ⟨2, ![1024, 2]⟩
abbrev S32x256x512 : Shape := ⟨3, ![32, 256, 512]⟩
abbrev S1024x32 : Shape := ⟨2, ![1024, 32]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1 : Shape := ⟨1, ![1]⟩
abbrev S1x1x1 : Shape := ⟨3, ![1, 1, 1]⟩
abbrev S1x1 : Shape := ⟨2, ![1, 1]⟩
abbrev S1024x256x512 : Shape := ⟨3, ![1024, 256, 512]⟩
abbrev S1024x512 : Shape := ⟨2, ![1024, 512]⟩

abbrev nBuf : Space → Nat
  | .hbm => 84
  | .vmem => 0
  | .smem => 0
  | _ => 0

abbrev bufTy : (tb : Table) → Fin (tcTables nBuf tb) → BufTy
  | .hbm, ⟨0, _⟩ => ⟨S1024x256, .bf16⟩
  | .hbm, ⟨1, _⟩ => ⟨S256x32, .bf16⟩
  | .hbm, ⟨2, _⟩ => ⟨S1024x2, .i32⟩
  | .hbm, ⟨3, _⟩ => ⟨S32x256x512, .bf16⟩
  | .hbm, ⟨4, _⟩ => ⟨S1024x256, .f32⟩
  | .hbm, ⟨5, _⟩ => ⟨S256x32, .f32⟩
  | .hbm, ⟨6, _⟩ => ⟨S32x256x512, .f32⟩
  | .hbm, ⟨7, _⟩ => ⟨S1024x32, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x32, .f32⟩
  | .hbm, ⟨12, _⟩ => ⟨S1024x32, .f32⟩
  | .hbm, ⟨13, _⟩ => ⟨S1024x32, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x32, .f32⟩
  | .hbm, ⟨18, _⟩ => ⟨S1024x32, .f32⟩
  | .hbm, ⟨19, _⟩ => ⟨S1024x2x1, .i32⟩
  | .hbm, ⟨20, _⟩ => ⟨S1, .i32⟩
  | .hbm, ⟨21, _⟩ => ⟨S_, .i32⟩
  | .hbm, ⟨22, _⟩ => ⟨S1024x2x1, .i32⟩
  | .hbm, ⟨23, _⟩ => ⟨S1024x2x1, .i1⟩
  | .hbm, ⟨24, _⟩ => ⟨S1x1x1, .i32⟩
  | .hbm, ⟨25, _⟩ => ⟨S1024x2x1, .i32⟩
  | .hbm, ⟨26, _⟩ => ⟨S1024x2x1, .i1⟩
  | .hbm, ⟨27, _⟩ => ⟨S1024x2x1, .i1⟩
  | .hbm, ⟨28, _⟩ => ⟨S_, .i1⟩
  | .hbm, ⟨29, _⟩ => ⟨S1024x2, .i1⟩
  | .hbm, ⟨30, _⟩ => ⟨S1024x2, .f32⟩
  | .hbm, ⟨31, _⟩ => ⟨S_, .f32⟩
  | .hbm, ⟨32, _⟩ => ⟨S1024x2, .f32⟩
  | .hbm, ⟨33, _⟩ => ⟨S1024x2, .f32⟩
  | .hbm, ⟨34, _⟩ => ⟨S_, .f32⟩
  | .hbm, ⟨35, _⟩ => ⟨S1024, .f32⟩
  | .hbm, ⟨36, _⟩ => ⟨S1024x1, .f32⟩
  | .hbm, ⟨37, _⟩ => ⟨S1024x2, .f32⟩
  | .hbm, ⟨38, _⟩ => ⟨S1024x2, .f32⟩
  | .hbm, ⟨39, _⟩ => ⟨S1024x1, .i32⟩
  | .hbm, ⟨40, _⟩ => ⟨S1024, .i32⟩
  | .hbm, ⟨41, _⟩ => ⟨S1024x1, .i32⟩
  | .hbm, ⟨42, _⟩ => ⟨S1, .i32⟩
  | .hbm, ⟨43, _⟩ => ⟨S_, .i32⟩
  | .hbm, ⟨44, _⟩ => ⟨S1024x1, .i32⟩
  | .hbm, ⟨45, _⟩ => ⟨S1024x1, .i1⟩
  | .hbm, ⟨46, _⟩ => ⟨S1x1, .i32⟩
  | .hbm, ⟨47, _⟩ => ⟨S1024x1, .i32⟩
  | .hbm, ⟨48, _⟩ => ⟨S1024x1, .i1⟩
  | .hbm, ⟨49, _⟩ => ⟨S1024x1, .i1⟩
  | .hbm, ⟨50, _⟩ => ⟨S_, .i1⟩
  | .hbm, ⟨51, _⟩ => ⟨S1024, .i1⟩
  | .hbm, ⟨52, _⟩ => ⟨S1024x256x512, .f32⟩
  | .hbm, ⟨53, _⟩ => ⟨S1024x256x512, .i1⟩
  | .hbm, ⟨54, _⟩ => ⟨S_, .f32⟩
  | .hbm, ⟨55, _⟩ => ⟨S1024x256x512, .f32⟩
  | .hbm, ⟨56, _⟩ => ⟨S1024x256x512, .f32⟩
  | .hbm, ⟨57, _⟩ => ⟨S1024x512, .f32⟩
  | .hbm, ⟨58, _⟩ => ⟨S1024x1, .i32⟩
  | .hbm, ⟨59, _⟩ => ⟨S1024, .i32⟩
  | .hbm, ⟨60, _⟩ => ⟨S1024x1, .i32⟩
  | .hbm, ⟨61, _⟩ => ⟨S1, .i32⟩
  | .hbm, ⟨62, _⟩ => ⟨S_, .i32⟩
  | .hbm, ⟨63, _⟩ => ⟨S1024x1, .i32⟩
  | .hbm, ⟨64, _⟩ => ⟨S1024x1, .i1⟩
  | .hbm, ⟨65, _⟩ => ⟨S1x1, .i32⟩
  | .hbm, ⟨66, _⟩ => ⟨S1024x1, .i32⟩
  | .hbm, ⟨67, _⟩ => ⟨S1024x1, .i1⟩
  | .hbm, ⟨68, _⟩ => ⟨S1024x1, .i1⟩
  | .hbm, ⟨69, _⟩ => ⟨S_, .i1⟩
  | .hbm, ⟨70, _⟩ => ⟨S1024, .i1⟩
  | .hbm, ⟨71, _⟩ => ⟨S1024x256x512, .f32⟩
  | .hbm, ⟨72, _⟩ => ⟨S1024x256x512, .i1⟩
  | .hbm, ⟨73, _⟩ => ⟨S_, .f32⟩
  | .hbm, ⟨74, _⟩ => ⟨S1024x256x512, .f32⟩
  | .hbm, ⟨75, _⟩ => ⟨S1024x256x512, .f32⟩
  | .hbm, ⟨76, _⟩ => ⟨S1024x512, .f32⟩
  | .hbm, ⟨77, _⟩ => ⟨S1024x1, .f32⟩
  | .hbm, ⟨78, _⟩ => ⟨S1024x512, .f32⟩
  | .hbm, ⟨79, _⟩ => ⟨S1024x512, .f32⟩
  | .hbm, ⟨80, _⟩ => ⟨S1024x1, .f32⟩
  | .hbm, ⟨81, _⟩ => ⟨S1024x512, .f32⟩
  | .hbm, ⟨82, _⟩ => ⟨S1024x512, .f32⟩
  | .hbm, ⟨83, _⟩ => ⟨S1024x512, .f32⟩
  | _, _ => ⟨S1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_c_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Proof.Protocol.lean ====
/-
The exchange protocol of the kernel: eight devices, seven messages from every device, one to each other device.

Device `c` prepares for every offset `r + 1` (`r : Fin 7`) a block of rows in slot `r + 1` of its send buffer and copies
it into slot `r + 1` of the receive buffer of the device that many places further on. Before any copy each device tells
the seven others, through the barrier semaphore, that its receive slots may be written. This file names the devices, the
slots, the semaphore cells and the values exchanged, and states the one-round schedule of duties and payloads.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Mathlib.Logic.Function.Basic

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's copy and the exchange's, with seven duty names -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

set_option backward.proofsInPublic true in
/-- The device `r + 1` places after `c`. -/
def fwd (c : Dev nD) (r : Fin 7) : Dev nD := ⟨(c.val + r.val + 1) % 8, Nat.mod_lt _ (by decide)⟩

/-- Going `r + 1` places on and then `7 - r` places on is going round once. -/
theorem fwd_fwd_rev (c : Dev nD) (r : Fin 7) : fwd (fwd c r) r.rev = c := by revert c r; decide
theorem fwd_rev_fwd (c : Dev nD) (r : Fin 7) : fwd (fwd c r.rev) r = c := by revert c r; decide
theorem fwd_inj {c d : Dev nD} {r : Fin 7} (h : fwd c r = fwd d r) : c = d := by
  rw [← fwd_fwd_rev c r, h, fwd_fwd_rev]

/-- Going `r + 1` places on, as a bijection of the devices. -/
def fwdEquiv (r : Fin 7) : Dev nD ≃ Dev nD := ⟨fun c => fwd c r, fun c => fwd c r.rev, fun c => fwd_fwd_rev c r, fun c => fwd_rev_fwd c r⟩

/-- The seven signals go to the seven devices in order. -/
theorem dev1_eq (c : Dev nD) : (⟨k0_dev1 c, k0_dev1_lt c⟩ : Dev nD) = fwd c 0 := Fin.ext (k0_dev1_eq c)
theorem dev2_eq (c : Dev nD) : (⟨k0_dev2 c, k0_dev2_lt c⟩ : Dev nD) = fwd c 1 := Fin.ext (k0_dev2_eq c)
theorem dev3_eq (c : Dev nD) : (⟨k0_dev3 c, k0_dev3_lt c⟩ : Dev nD) = fwd c 2 := Fin.ext (k0_dev3_eq c)
theorem dev4_eq (c : Dev nD) : (⟨k0_dev4 c, k0_dev4_lt c⟩ : Dev nD) = fwd c 3 := Fin.ext (k0_dev4_eq c)
theorem dev5_eq (c : Dev nD) : (⟨k0_dev5 c, k0_dev5_lt c⟩ : Dev nD) = fwd c 4 := Fin.ext (k0_dev5_eq c)
theorem dev6_eq (c : Dev nD) : (⟨k0_dev6 c, k0_dev6_lt c⟩ : Dev nD) = fwd c 5 := Fin.ext (k0_dev6_eq c)
theorem dev7_eq (c : Dev nD) : (⟨k0_dev7 c, k0_dev7_lt c⟩ : Dev nD) = fwd c 6 := Fin.ext (k0_dev7_eq c)
/-- The seven copies go to the seven devices in order. -/
theorem dev8_eq (c : Dev nD) : (⟨k0_dev8 c, k0_dev8_lt c⟩ : Dev nD) = fwd c 0 := Fin.ext (k0_dev8_eq c)
theorem dev9_eq (c : Dev nD) : (⟨k0_dev9 c, k0_dev9_lt c⟩ : Dev nD) = fwd c 1 := Fin.ext (k0_dev9_eq c)
theorem dev10_eq (c : Dev nD) : (⟨k0_dev10 c, k0_dev10_lt c⟩ : Dev nD) = fwd c 2 := Fin.ext (k0_dev10_eq c)
theorem dev11_eq (c : Dev nD) : (⟨k0_dev11 c, k0_dev11_lt c⟩ : Dev nD) = fwd c 3 := Fin.ext (k0_dev11_eq c)
theorem dev12_eq (c : Dev nD) : (⟨k0_dev12 c, k0_dev12_lt c⟩ : Dev nD) = fwd c 4 := Fin.ext (k0_dev12_eq c)
theorem dev13_eq (c : Dev nD) : (⟨k0_dev13 c, k0_dev13_lt c⟩ : Dev nD) = fwd c 5 := Fin.ext (k0_dev13_eq c)
theorem dev14_eq (c : Dev nD) : (⟨k0_dev14 c, k0_dev14_lt c⟩ : Dev nD) = fwd c 6 := Fin.ext (k0_dev14_eq c)

/-! ## Buffers and slots -/

abbrev xM : Memref sig .tc .vmem S1024x256 .bf16 := Memref.whole cc0_stg0_0
abbrev gM : Memref sig .tc .vmem S256x32 .bf16 := Memref.whole cc0_stg1_0
abbrev iM : Memref sig .tc .vmem S1024x2 .i32 := Memref.whole cc0_stg2_0
abbrev wM : Memref sig .tc .vmem S4x256x512 .bf16 := Memref.whole cc0_stg3_0
abbrev oM : Memref sig .tc .vmem S128x512 .f32 := Memref.whole cc0_stg4_0
abbrev cM : Memref sig .tc .vmem S1024x4 .f32 := Memref.whole cc0_scratch0
abbrev sM : Memref sig .tc .vmem S8x128x512 .bf16 := Memref.whole cc0_scratch1
abbrev rM : Memref sig .tc .vmem S8x128x512 .bf16 := Memref.whole cc0_scratch2

theorem slot_inb (r : Fin 7) : ∀ a, (![r.val + 1, 0, 0] : Fin 3 → Nat) a + S1x128x512.size a ≤ S8x128x512.size a := by
  revert r; decide
theorem sem_inb (r : Fin 7) : ∀ a, (![r.val + 1] : Fin 1 → Nat) a + S1.size a ≤ S8.size a := by revert r; decide

/-- Slot `r + 1` of an eight-slot buffer, as a rectangle. -/
abbrev slotR (r : Fin 7) : Rect S8x128x512 := Rect.unit (s := S8x128x512) ![r.val + 1, 0, 0] S1x128x512.size (slot_inb r)
/-- Slot `r + 1` of the send and of the receive buffer, with and without the leading axis. -/
abbrev sSl (r : Fin 7) : Memref sig .tc .vmem S1x128x512 .bf16 := sM.slice (slotR r) (fun _ => rfl)
abbrev rSl (r : Fin 7) : Memref sig .tc .vmem S1x128x512 .bf16 := rM.slice (slotR r) (fun _ => rfl)
abbrev sSq (r : Fin 7) : Memref sig .tc .vmem S128x512 .bf16 := (sSl r).squeeze S128x512 squeezes_S1x128x512_S128x512
abbrev rSq (r : Fin 7) : Memref sig .tc .vmem S128x512 .bf16 := (rSl r).squeeze S128x512 squeezes_S1x128x512_S128x512

/-! ## Semaphore cells -/

abbrev barS : Sem sig := (SemArray.scalar (sig.barrier 0 rfl) : Sems sig S_).sem
abbrev sS (r : Fin 7) : DmaSem sig := ((cc0_scratch3.slice (Rect.unit (s := S8) ![r.val + 1] S1.size (sem_inb r))).squeeze S_ squeezes_S1_S_).sem
abbrev rS (r : Fin 7) : DmaSem sig := ((cc0_scratch4.slice (Rect.unit (s := S8) ![r.val + 1] S1.size (sem_inb r))).squeeze S_ squeezes_S1_S_).sem

/-- The kinds of cell: the barrier, seven send cells, seven receive cells. -/
abbrev CI : Type := Unit ⊕ (Fin 7 ⊕ Fin 7)
abbrev CI.bar : CI := .inl ()
abbrev CI.send (r : Fin 7) : CI := .inr (.inl r)
abbrev CI.recv (r : Fin 7) : CI := .inr (.inr r)

/-- The semaphore of a cell. -/
def csem : CI → SemLoc sig
  | .inl _ => .reg barS
  | .inr (.inl r) => .dma (sS r)
  | .inr (.inr r) => .dma (rS r)

theorem csem_injective : Function.Injective csem := by decide

abbrev kcell (ck : Dev nD × CI) : GSem nD τ sig := ((ck.1 : Thread nD τ), csem ck.2)
abbrev barCell (c : Dev nD) : GSem nD τ sig := ((c : Thread nD τ), .reg barS)
abbrev sendCell (c : Dev nD) (r : Fin 7) : GSem nD τ sig := ((c : Thread nD τ), .dma (sS r))
abbrev recvCell (c : Dev nD) (r : Fin 7) : GSem nD τ sig := ((c : Thread nD τ), .dma (rS r))

theorem kcell_injective : Function.Injective kcell := by
  rintro ⟨c, k⟩ ⟨c', k'⟩ h
  have h1 : c = c' := by have := congrArg (fun g : GSem nD τ sig => g.1.1) h; exact this
  have h2 : csem k = csem k' := congrArg Prod.snd h
  exact Prod.ext h1 (csem_injective h2)

/-- Which cell a semaphore is, if any. -/
def cls : SemLoc sig → Option CI := Function.partialInv csem
theorem cls_csem (k : CI) : cls (csem k) = some k := Function.partialInv_left csem_injective k
theorem cls_bar : cls (.reg barS) = some CI.bar := cls_csem CI.bar
theorem cls_send (r : Fin 7) : cls (.dma (sS r)) = some (CI.send r) := cls_csem (CI.send r)
theorem cls_recv (r : Fin 7) : cls (.dma (rS r)) = some (CI.recv r) := cls_csem (CI.recv r)
theorem cls_some {s : SemLoc sig} {k : CI} (h : cls s = some k) : s = csem k :=
  ((Function.partialInv_of_injective csem_injective k s).1 h).symm

/-- The credit of one slot's copy. -/
abbrev N : ℕ := (rSq 0).view.dmaCredit
theorem N_pos : 0 < N := View.dmaCredit_pos _ (by decide)

/-! ## The values -/

/-- The coefficients: for every token and every expert of this device, the weight of that expert. -/
def coeffOf (c : Dev nD) (X : Vec F S1024x256 .bf16) (G : Vec F S256x32 .bf16) (i0 i1 : Vec F S1024x1 .i32) : FVec F S1024x4 .f32 :=
  have v2 : BitVec 32 := Scalar.remsi (Scalar.divsi (Dev.word c) 1#32) 8#32
  k0_pay15 (k0_pay9 (k0_pay4 X G i0) (k0_pay5 X G i1))
    (k0_pay10 v2 (k0_pay2 i0) (k0_pay3 i1) (k0_pay4 X G i0) (k0_pay5 X G i1))
    (k0_pay11 v2 (k0_pay2 i0) (k0_pay3 i1) (k0_pay4 X G i0) (k0_pay5 X G i1))
    (k0_pay12 v2 (k0_pay2 i0) (k0_pay3 i1) (k0_pay4 X G i0) (k0_pay5 X G i1))
    (k0_pay13 v2 (k0_pay2 i0) (k0_pay4 X G i0) (k0_pay5 X G i1))
    (k0_pay14 v2 (k0_pay3 i1))

/-- One message: 128 rows, their coefficients and the four experts' matrices give the rows' partial results. -/
def partialOf (x : Vec F S128x256 .bf16) (k : Vec F S128x4 .f32) (w0 w1 w2 w3 : Vec F S1x256x512 .bf16) : FVec F S1x128x512 .bf16 :=
  k0_pay22 (k0_pay21 (k0_pay20 x) k w0 w1 w2 w3)

/-- The device's own rows' partial result. -/
def ownOf (x : Vec F S128x256 .bf16) (k : Vec F S128x4 .f32) (w0 w1 w2 w3 : Vec F S1x256x512 .bf16) : FVec F S128x512 .f32 :=
  k0_pay47 (k0_pay43 x) k k0_pay44 (k0_pay45 x k) (k0_pay46 w0) w1 w2 w3

/-- The own partial result and the seven that arrive, added up. -/
def sumOf (o : FVec F S128x512 .f32) (l : Fin 7 → Vec F S1x128x512 .bf16) : FVec F S128x512 .f32 :=
  k0_pay50 (k0_pay49 (k0_pay48 o (l 0) (l 1) (l 2)) (l 3) (l 4)) (l 5) (l 6)

abbrev xRect (c : Dev nD) (r : Fin 7) : Rect S1024x256 :=
  Rect.unit (s := S1024x256) (k0_off1 c (BitVec.ofNat 32 (1 + r.val))) S128x256.size (k0_off1_inb c r)
abbrev cRect (c : Dev nD) (r : Fin 7) : Rect S1024x4 :=
  Rect.unit (s := S1024x4) (k0_off2 c (BitVec.ofNat 32 (1 + r.val))) S128x4.size (k0_off2_inb c r)
abbrev xOwn (c : Dev nD) : Rect S1024x256 := Rect.unit (s := S1024x256) (k0_off3 c) S128x256.size (k0_off3_inb c)
abbrev cOwn (c : Dev nD) : Rect S1024x4 := Rect.unit (s := S1024x4) (k0_off4 c) S128x4.size (k0_off4_inb c)
abbrev wRect0 : Rect S4x256x512 := Rect.unit (s := S4x256x512) ![0, 0, 0] S1x256x512.size inb_S4x256x512_S1x256x512_0_0_0
abbrev wRect1 : Rect S4x256x512 := Rect.unit (s := S4x256x512) ![1, 0, 0] S1x256x512.size inb_S4x256x512_S1x256x512_1_0_0
abbrev wRect2 : Rect S4x256x512 := Rect.unit (s := S4x256x512) ![2, 0, 0] S1x256x512.size inb_S4x256x512_S1x256x512_2_0_0
abbrev wRect3 : Rect S4x256x512 := Rect.unit (s := S4x256x512) ![3, 0, 0] S1x256x512.size inb_S4x256x512_S1x256x512_3_0_0
abbrev iRect0 : Rect S1024x2 := Rect.unit (s := S1024x2) ![0, 0] S1024x1.size inb_S1024x2_S1024x1_0_0
abbrev iRect1 : Rect S1024x2 := Rect.unit (s := S1024x2) ![0, 1] S1024x1.size inb_S1024x2_S1024x1_0_1

variable (m : (ℓ : Loc nD τ sig) → Buf (Elt F) ℓ)

/-- What window `w` of device `c` stages: its block of the array at launch. -/
def stgV (c : Dev nD) (w : Fin cfg0.W) : ((cfg0.win w).xblock (cfg0.grid.coords t0_0)).Idx → Elt F (cfg0.win w).elt :=
  ((cfg0.win w).blk t0_0).view.read (Elt F) (m ((c : Thread nD τ).loc (Pipeline.arrRef spec0 w)))

/-- The four operands as device `c` holds them. -/
def xV (c : Dev nD) : (cc0_stg0_0 : Ref sig .tc).ty.Contents (Elt F) := stgV m c (0 : Fin 5)
def gV (c : Dev nD) : (cc0_stg1_0 : Ref sig .tc).ty.Contents (Elt F) := stgV m c (1 : Fin 5)
def iV (c : Dev nD) : (cc0_stg2_0 : Ref sig .tc).ty.Contents (Elt F) := stgV m c (2 : Fin 5)
def wV (c : Dev nD) : (cc0_stg3_0 : Ref sig .tc).ty.Contents (Elt F) := stgV m c (3 : Fin 5)

/-- The coefficients device `c` computes. -/
def kV (c : Dev nD) : (cc0_scratch0 : Ref sig .tc).ty.Contents (Elt F) :=
  coeffOf c (xV m c) (gV m c) (iM.view.readAt (Elt F) iRect0.toLoadRect (iV m c)) (iM.view.readAt (Elt F) iRect1.toLoadRect (iV m c))

/-- The message device `c` sends to the device `r + 1` places on. -/
def msg (c : Dev nD) (r : Fin 7) : FVec F S1x128x512 .bf16 :=
  partialOf (xM.view.readAt (Elt F) (xRect c r).toLoadRect (xV m c)) (cM.view.readAt (Elt F) (cRect c r).toLoadRect (kV m c))
    (wM.view.readAt (Elt F) wRect0.toLoadRect (wV m c)) (wM.view.readAt (Elt F) wRect1.toLoadRect (wV m c))
    (wM.view.readAt (Elt F) wRect2.toLoadRect (wV m c)) (wM.view.readAt (Elt F) wRect3.toLoadRect (wV m c))

/-- The rows device `c` keeps. -/
def own (c : Dev nD) : FVec F S128x512 .f32 :=
  ownOf (xM.view.readAt (Elt F) (xOwn c).toLoadRect (xV m c)) (cM.view.readAt (Elt F) (cOwn c).toLoadRect (kV m c))
    (wM.view.readAt (Elt F) wRect0.toLoadRect (wV m c)) (wM.view.readAt (Elt F) wRect1.toLoadRect (wV m c))
    (wM.view.readAt (Elt F) wRect2.toLoadRect (wV m c)) (wM.view.readAt (Elt F) wRect3.toLoadRect (wV m c))

/-- The message that arrives in slot `r + 1` of device `c`: sent by the device `r + 1` places before it. -/
def arrived (c : Dev nD) (r : Fin 7) : FVec F S1x128x512 .bf16 := msg m (fwd c r.rev) r

/-- The result of device `c`. -/
def outV (c : Dev nD) : (cc0_stg4_0 : Ref sig .tc).ty.Contents (Elt F) := sumOf (own m c) (arrived m c)

/-! ## Payloads -/

/-- Slot `r + 1` of device `c`'s send buffer, and of its receive buffer, at some contents. -/
def sendPay (c : Dev nD) (r : Fin 7) : sProp 𝕄 := iprop(∃ X, owns (c : Thread nD τ) (sSl r) fullShare X)
def freePay (c : Dev nD) (r : Fin 7) : sProp 𝕄 := iprop(∃ X, owns (c : Thread nD τ) (rSl r) fullShare X)
/-- Slot `r + 1` of device `c`'s receive buffer holding the message that arrives there. -/
def recvPay (c : Dev nD) (r : Fin 7) : sProp 𝕄 := owns (c : Thread nD τ) (rSl r) fullShare (arrived m c r)

omit [FloatOps F] in
instance sendPay_storable (c : Dev nD) (r : Fin 7) : BI.Storable (upEmb : UEmb _ 𝕄) (sendPay (F := F) c r) := by unfold sendPay; infer_instance
omit [FloatOps F] in
instance freePay_storable (c : Dev nD) (r : Fin 7) : BI.Storable (upEmb : UEmb _ 𝕄) (freePay (F := F) c r) := by unfold freePay; infer_instance
instance recvPay_storable (c : Dev nD) (r : Fin 7) : BI.Storable (upEmb : UEmb _ 𝕄) (recvPay m c r) := by unfold recvPay; infer_instance

/-- The payload of duty `d` of a cell: at a barrier cell the signalling device's receive slot, at a send cell the sent
    slot, at a receive cell the arrived message. -/
def pay (c : Dev nD) (d : Fin 7) : CI → sProp 𝕄
  | .inl _ => freePay (fwd c d.rev) d.rev
  | .inr (.inl r) => sendPay c r
  | .inr (.inr r) => recvPay m c r

instance pay_storable (c : Dev nD) (d : Fin 7) (k : CI) : BI.Storable (upEmb : UEmb _ 𝕄) (pay m c d k) := by
  rcases k with _ | _ | _ <;> (unfold pay; infer_instance)

def dutySet : CI → Finset (Fin 7)
  | .inl _ => Finset.univ
  | .inr _ => {0}

def unitOf : CI → ℕ
  | .inl _ => 1
  | .inr _ => N

theorem unitOf_pos (k : CI) : 0 < unitOf k := by rcases k with _ | _ <;> first | exact Nat.one_pos | exact N_pos

/-- One round: a barrier cell has seven duties of one unit, a send or receive cell one duty of a slot's credit. -/
def sched : Rounds.Schedule (GSem nD τ sig) (Fin 7) 𝕄 where
  duties g r := if r = 0 ∧ g.1.2 = .tc then (cls g.2).elim ∅ dutySet else ∅
  unitless _ := False
  amount g _ _ := (cls g.2).elim 1 unitOf
  payload g _ d := (cls g.2).elim iprop(emp) (pay m g.1.1 d)
  amount_pos g _ _ _ := by
    cases h : cls g.2 with
    | none => exact Nat.one_pos
    | some k => exact unitOf_pos k

instance sched_payload_storable (g : GSem nD τ sig) (r : ℕ) (d : Fin 7) :
    BI.Storable (upEmb : UEmb _ 𝕄) ((sched m).payload g r d) := by
  show BI.Storable upEmb ((cls g.2).elim iprop(emp) (pay m g.1.1 d))
  cases cls g.2 with
  | none => show BI.Storable upEmb (iprop(emp) : sProp 𝕄); infer_instance
  | some k => show BI.Storable upEmb (pay m g.1.1 d k); infer_instance

section Sched
variable (c : Dev nD)

theorem duties_cell (k : CI) : (sched m).duties (kcell (c, k)) 0 = dutySet k := by
  dsimp only [sched]
  rw [if_pos ⟨rfl, rfl⟩, cls_csem]; rfl
theorem duties_later (g : GSem nD τ sig) : ∀ r, 1 ≤ r → (sched m).duties g r = ∅ :=
  fun r hr => if_neg fun h => by omega
theorem amount_cell (k : CI) (d : Fin 7) : (sched m).amount (kcell (c, k)) 0 d = unitOf k := by
  show (cls (csem k)).elim 1 unitOf = _
  rw [cls_csem]; rfl
theorem payload_cell (k : CI) (d : Fin 7) : (sched m).payload (kcell (c, k)) 0 d = pay m c d k := by
  show (cls (csem k)).elim iprop(emp) (pay m c d) = _
  rw [cls_csem]; rfl
theorem expect_bar : (sched m).expect (barCell c) 0 = 7 := by
  unfold Schedule.expect Schedule.amountOf
  have h : ∀ d ∈ (Finset.univ : Finset (Fin 7)), (sched m).amount (barCell c) 0 d = 1 := fun d _ => amount_cell m c CI.bar d
  rw [show (sched m).duties (barCell c) 0 = Finset.univ from duties_cell m c CI.bar, Finset.sum_congr rfl h]
  decide
theorem expect_xfer (k : Fin 7 ⊕ Fin 7) : (sched m).expect (kcell (c, .inr k)) 0 = N := by
  unfold Schedule.expect Schedule.amountOf
  rw [duties_cell]
  show ∑ d ∈ ({0} : Finset (Fin 7)), _ = _
  rw [Finset.sum_singleton, amount_cell]; rfl

/-- All of a barrier cell's payloads: for every offset the receive slot it is to be sent into. -/
theorem rest_bar : bigSep ((sched m).duties (barCell c) 0 \ ∅) (fun d => (sched m).payload (barCell c) 0 d)
    ⊢ (bigSep Finset.univ fun r : Fin 7 => freePay (F := F) (fwd c r) r) := by
  have h : ∀ d ∈ (Finset.univ : Finset (Fin 7)), (sched m).payload (barCell c) 0 d = freePay (fwd c d.rev) d.rev :=
    fun d _ => payload_cell m c CI.bar d
  rw [Finset.sdiff_empty, show (sched m).duties (barCell c) 0 = Finset.univ from duties_cell m c CI.bar,
    bigSep_congr h, bigSep_univ_equiv Fin.revPerm (fun r : Fin 7 => freePay (F := F) (fwd c r) r)]
  exact Entails.of_eq rfl
theorem rest_xfer (k : Fin 7 ⊕ Fin 7) :
    bigSep ((sched m).duties (kcell (c, .inr k)) 0 \ ∅) (fun d => (sched m).payload (kcell (c, .inr k)) 0 d) = pay m c 0 (.inr k) := by
  rw [Finset.sdiff_empty, duties_cell]
  show bigSep ({0} : Finset (Fin 7)) _ = _
  rw [bigSep_singleton, payload_cell]

end Sched

/-! ## What each device owes; levels -/

/-- The tallies of the offsets from `k` on. -/
def owedFrom (f : Fin 7 → CellTallies nD τ sig Unit) (k : ℕ) : CellTallies nD τ sig Unit := ∑ r with k ≤ r.val, f r

theorem owedFrom_peel (f : Fin 7 → CellTallies nD τ sig Unit) (r : Fin 7) : owedFrom f r.val = owedFrom f (r.val + 1) + f r := by
  unfold owedFrom
  rw [show (Finset.univ.filter fun q : Fin 7 => r.val ≤ q.val) = insert r (Finset.univ.filter fun q : Fin 7 => r.val + 1 ≤ q.val) from by
    revert r; decide, Finset.sum_insert (by simp), add_comm]
theorem owedFrom_seven (f : Fin 7 → CellTallies nD τ sig Unit) : owedFrom f 7 = 0 := by
  unfold owedFrom
  rw [show (Finset.univ.filter fun q : Fin 7 => 7 ≤ q.val) = ∅ from by decide, Finset.sum_empty]

def oRecv (c : Dev nD) (r : Fin 7) : CellTallies nD τ sig Unit := tallyAt (recvCell (fwd c r) r) () N
def oBar (c : Dev nD) (r : Fin 7) : CellTallies nD τ sig Unit := tallyAt (barCell (fwd c r)) () 1

/-- At launch: the seven copies' credits and the seven barrier units. -/
def O₀ (c : Dev nD) : CellTallies nD τ sig Unit := owedFrom (oRecv c) 0 + owedFrom (oBar c) 0

def L (g : GSem nD τ sig) : Finset Unit := if g.1.2 = .tc then {()} else ∅

/-- Barrier cells at level 1, receive cells at level 2, everything else at level 0. -/
def lvOf : Option CI → ℕ
  | some (.inl _) => 1
  | some (.inr (.inr _)) => 2
  | _ => 0
def lv (g : GSem nD τ sig) (_ : Unit) : ℕ := lvOf (cls g.2)

theorem L_of_ne (g : GSem nD τ sig) (h : g.1.2 ≠ .tc) : L g = ∅ := if_neg h
theorem L_tc (c : Dev nD) (sm : SemLoc sig) : L ((c : Thread nD τ), sm) = {()} := if_pos rfl

theorem owedFrom_pos {f : Fin 7 → CellTallies nD τ sig Unit} {k : ℕ} {g : GSem nD τ sig} {u : Unit} (h : 0 < owedFrom f k g u) :
    ∃ r, 0 < f r g u := by
  by_contra hn
  rw [not_exists] at hn
  unfold owedFrom at h
  rw [Finset.sum_apply, Finsupp.finset_sum_apply, Finset.sum_eq_zero fun r _ => Nat.eq_zero_of_not_pos (hn r)] at h
  exact Nat.lt_irrefl 0 h
theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem oRecv_pos {c : Dev nD} {k : ℕ} {g : GSem nD τ sig} {u : Unit} (h : 0 < owedFrom (oRecv c) k g u) :
    ∃ r, g = recvCell (fwd c r) r := (owedFrom_pos h).imp fun _ hr => tally_pos hr
theorem O₀_pos {c : Dev nD} {g : GSem nD τ sig} {u : Unit} (h : 0 < O₀ c g u) :
    (∃ r, g = recvCell (fwd c r) r) ∨ ∃ r, g = barCell (fwd c r) := by
  unfold O₀ at h
  rw [Pi.add_apply, Finsupp.add_apply] at h
  rcases Nat.pos_of_ne_zero (n := owedFrom (oRecv c) 0 g u) |> fun _ => Nat.eq_zero_or_pos (owedFrom (oRecv c) 0 g u) with h0 | h0
  · rw [h0, Nat.zero_add] at h
    exact .inr ((owedFrom_pos h).imp fun _ hr => tally_pos hr)
  · exact .inl (oRecv_pos h0)

theorem lv_bar (c : Dev nD) (u : Unit) : lv (barCell c) u = 1 := by show lvOf (cls (.reg barS)) = 1; rw [cls_bar]; rfl
theorem lv_recv (c : Dev nD) (r : Fin 7) (u : Unit) : lv (recvCell c r) u = 2 := by show lvOf (cls (.dma (rS r))) = 2; rw [cls_recv]; rfl
theorem lv_stage (c : Dev nD) (q : DmaSem sig) (hq : ∀ r, q ≠ rS r) (u : Unit) : lv ((c : Thread nD τ), .dma q) u = 0 := by
  show lvOf (cls (.dma q)) = 0
  cases h : cls (.dma q) with
  | none => rfl
  | some k =>
    rcases k with _ | r | r
    · exact absurd (cls_some h) (fun h' => by cases h')
    · rfl
    · exact absurd (cls_some h) (fun h' => hq r (by injection h'))

omit [FloatOps F] in
/-- A staging semaphore may be waited for while everything is owed. -/
theorem mayWait_stage (c : Dev nD) (q : DmaSem sig) (hq : ∀ r, q ≠ rS r) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by rw [Finset.mem_singleton.mp hp, lv_stage c q hq])
      (fun g u hg => by
        rcases O₀_pos hg with ⟨r, rfl⟩ | ⟨r, rfl⟩
        · rw [lv_recv]; decide
        · rw [lv_bar]; decide)
  · rw [MayWait_zero]; iintro -; iempintro

omit [FloatOps F] in
/-- The barrier may be waited for while the seven copies are owed. -/
theorem mayWait_bar (c : Dev nD) :
    (levAts L lv : sProp 𝕄) ⊢ MayWait (c : Thread nD τ) (.reg barS) () (owedFrom (oRecv c) 0) :=
  MayOwe.of_cut (L := L) (lev := lv) 1 (fun p hp => by rw [Finset.mem_singleton.mp hp, L_tc]; exact Finset.mem_singleton_self _)
    (fun g u hg => by obtain ⟨r, rfl⟩ := oRecv_pos hg; exact Finset.mem_singleton_self _)
    (fun p hp => by rw [Finset.mem_singleton.mp hp, lv_bar])
    (fun g u hg => by obtain ⟨r, rfl⟩ := oRecv_pos hg; rw [lv_recv]; decide)

end Cert.Exchange
-- ==== Proof.Steps.lean ====
/-
One step of the body at a time: a signal, the barrier wait, a block of rows computed and copied out, an arrival, and the
return of a sent slot. Each is stated once for every offset, in front of an arbitrary rest of the program.
-/
module

public import proofs.«01_k».proof.Proof.Protocol

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What is known of every cell -/

/-- A cell's invariant at some name, and that its round 0 is reached. -/
def known (g : GSem nD τ sig) : sProp 𝕄 := iprop((∃ κ, cellInv ER (sched m) κ g) ∗ reached ER g 0)
instance known_persistent (g : GSem nD τ sig) : BI.Persistent (known m g) := by unfold known; infer_instance

/-- The same of all cells. -/
def records : sProp 𝕄 := bigSep Finset.univ fun ck : Dev nD × CI => known m (kcell ck)
instance records_persistent : BI.Persistent (records m) := by unfold records; infer_instance

theorem records_elim (c : Dev nD) (k : CI) : records m ⊢ known m (kcell (c, k)) := by
  unfold records; exact bigSep_elim (Finset.mem_univ (c, k))

/-- A device's debts, whatever it has waited for. -/
def debt (c : Dev nD) (O : CellTallies nD τ sig Unit) : sProp 𝕄 := iprop(∃ W, owes (c : Thread nD τ) O W)

/-! ## Bundles -/

/-- For the signal at offset `r + 1`: its duty and the receive slot it announces. -/
def sigB (c : Dev nD) (r : Fin 7) : sProp 𝕄 := iprop(dutyTok ER (barCell (fwd c r)) 0 r ∗ freePay c r.rev)
/-- For the copy at offset `r + 1`: its two duties and the send slot. -/
def cpB (c : Dev nD) (r : Fin 7) : sProp 𝕄 :=
  iprop(dutyTok ER (recvCell (fwd c r) r) 0 0 ∗ dutyTok ER (sendCell c r) 0 0 ∗ sendPay c r)
/-- For the arrival in slot `r + 1`. -/
def rvB (c : Dev nD) (r : Fin 7) : sProp 𝕄 := iprop(cred (tallyAt (recvCell c r) () N) ∗ atPos ER (recvCell c r) 0 ∅ 0)

/-- The operands a block of rows is computed from. -/
def opsP (c : Dev nD) : sProp 𝕄 :=
  iprop((((c : Thread nD τ).loc cc0_stg0_0) ↦{fullShare} (xV m c : Buf (Elt F) ((c : Thread nD τ).loc cc0_stg0_0)))
    ∗ (((c : Thread nD τ).loc cc0_scratch0) ↦{fullShare} (kV m c : Buf (Elt F) ((c : Thread nD τ).loc cc0_scratch0)))
    ∗ (((c : Thread nD τ).loc cc0_stg3_0) ↦{fullShare} (wV m c : Buf (Elt F) ((c : Thread nD τ).loc cc0_stg3_0))))

/-! ## Views with and without the leading axis -/

omit [FloatOps F] in
/-- What is read through a view and written through another one of the same shape, both reshaped alike, is read back
    through the second unreshaped. -/
theorem read_write_reshape {κ κ' : Kind} {sp sp' : Space} {s s' : Shape} {e : EltTy} (v : View sig κ sp s e) (v' : View sig κ' sp' s e)
    (h : s'.numel = s.numel) (fd : v.ty.Contents (Elt F)) (fs : v'.ty.Contents (Elt F)) :
    v.read (Elt F) ((v.reshape s' h).write (Elt F) fd ((v'.reshape s' h).read (Elt F) fs) Finset.univ) = v'.read (Elt F) fs := by
  funext x
  obtain ⟨y, rfl⟩ := (Shape.reshapeEquiv h).surjective x
  exact congrFun (View.read_write_univ (v := v.reshape s' h) fd ((v'.reshape s' h).read (Elt F) fs)) y

theorem credit_recv (r : Fin 7) : (rSq r).view.dmaCredit = N := by revert r; decide
theorem credit_send (r : Fin 7) : (sSq r).view.dmaCredit = N := by revert r; decide

theorem rest_recv (c : Dev nD) (r : Fin 7) :
    bigSep ((sched m).duties (recvCell c r) 0 \ ∅) (fun d => (sched m).payload (recvCell c r) 0 d) = recvPay m c r := rest_xfer m c (.inr r)
theorem rest_send (c : Dev nD) (r : Fin 7) :
    bigSep ((sched m).duties (sendCell c r) 0 \ ∅) (fun d => (sched m).payload (sendCell c r) 0 d) = sendPay c r := rest_xfer m c (.inl r)

/-- The receive slot after the copy holds the message. -/
theorem copy_pay (c : Dev nD) (r : Fin 7) (fs : (sSq r).view.ty.Contents (Elt F)) (fd : (rSq r).view.ty.Contents (Elt F))
    (hfs : (sSl r).view.read (Elt F) fs = msg m c r) :
    ((rSq r).view.loc (fwd c r : Thread nD τ) ↦[(rSq r).view.set]{fullShare} ((rSq r).view.write (Elt F) fd ((sSq r).view.read (Elt F) fs) Finset.univ))
      ⊢ recvPay m (fwd c r) r := by
  have h : (rSl r).view.read (Elt F) ((rSq r).view.write (Elt F) fd ((sSq r).view.read (Elt F) fs) Finset.univ) = arrived m (fwd c r) r := by
    unfold arrived; rw [fwd_fwd_rev]
    exact (read_write_reshape (rSl r).view (sSl r).view _ fd fs).trans hfs
  have hs : (rSq r).view.set = (rSl r).view.set := View.set_reshape _ _
  rw [hs]
  unfold recvPay
  rw [← h]
  exact owns_intro (fwd c r : Thread nD τ) (rSl r) fullShare _

/-! ## Steps -/

section Steps
variable (c : Dev nD)

/-- The signal at offset `r + 1`. -/
theorem step_signal (r : Fin 7) (A : CellTallies nD τ sig Unit) {α : Type} {Q : α → sProp 𝕄} {k : PUnit → Prog (TpuEff nD τ sig (Elt F) Λ₀ .tc) α} :
    iprop(records m ∗ debt c (A + owedFrom (oBar c) r.val) ∗ sigB c r)
      ⊢ iprop((debt c (A + owedFrom (oBar c) (r.val + 1)) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (fwd c r : Thread nD τ) barS (1 : ℕ)) k) Q) := by
  unfold debt sigB
  iintro ⟨#HR, ⟨%W, HO⟩, Ht, Hf⟩ Hk
  ihave #HK := (records_elim m (fwd c r) CI.bar) $$ HR
  unfold known
  icases HK with ⟨⟨%κ, #HI⟩, #Hre⟩
  iapply (Rounds.wp_signal 𝒱₀ ER (sched m) (c : Thread nD τ) none (dst := (fwd c r : Thread nD τ)) (κ := κ) (r := 0) (W := W) (k' := 1)
      (O₀ := A + owedFrom (oBar c) r.val)
      (d := r) (by rw [show (sched m).duties (barCell (fwd c r)) 0 = Finset.univ from duties_cell m (fwd c r) CI.bar]; exact Finset.mem_univ _)
      (amount_cell m (fwd c r) CI.bar r) () (A + owedFrom (oBar c) (r.val + 1))
      (by rw [owedFrom_peel, ← add_assoc]; rfl)) $$ [HO Ht Hf]
  · isplitr; · iexact HI
    isplitl [HO]; · iexact HO
    isplitl [Ht]; · iexact Ht
    isplitl [Hf]
    · rw [show (sched m).payload (barCell (fwd c r)) 0 r = freePay (fwd (fwd c r) r.rev) r.rev from payload_cell m (fwd c r) CI.bar r, fwd_fwd_rev]
      iexact Hf
    iexact Hre
  iintro HO
  iapply Hk
  iexists W; iexact HO

/-- The wait for the seven signals: every receive slot this device writes into is its own for the copy, and the barrier
    cell is done with. -/
theorem step_barrier {α : Type} {Q : α → sProp 𝕄} {k : PUnit → Prog (TpuEff nD τ sig (Elt F) Λ₀ .tc) α} :
    iprop(records m ∗ levAts L lv ∗ cred (tallyAt (barCell c) () 7) ∗ debt c (owedFrom (oRecv c) 0 + owedFrom (oBar c) 7) ∗ atPos ER (barCell c) 0 ∅ 0)
      ⊢ iprop(((debt c (owedFrom (oRecv c) 0) ∗ semVal (barCell c) 0 ∗ bigSep Finset.univ fun r : Fin 7 => freePay (F := F) (fwd c r) r)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (7 : ℕ)) k) Q) := by
  rw [owedFrom_seven, add_zero]
  unfold debt
  iintro ⟨#HR, #Hlev, Hc, ⟨%W, HO⟩, Hat⟩ Hk
  ihave #HK := (records_elim m c CI.bar) $$ HR
  unfold known
  icases HK with ⟨⟨%κ, #HI⟩, #Hre⟩
  iapply (Rounds.wp_wait_rest_token 𝒱₀ ER (sched m) (c : Thread nD τ) none (κ := κ)
      (wpE_semWait_eq 𝒱₀ (c : Thread nD τ) none Set.univ) (Set.mem_univ _) () (O := owedFrom (oRecv c) 0) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  imod (Rounds.cell_close ER (sched m) (Set.mem_univ κ) (fun h => h) (R := 0 + 1) (duties_later m (barCell c))) $$ [Hat] with Hz
  · isplitr; · iexact HI
    iexact Hat
  iapply Hk
  isplitl [HO]; · iexists _; iexact HO
  isplitl [Hz]; · iexact Hz
  iapply (rest_bar m c); iexact Hpay

/-- An arrival: the wait on the receive cell and the load of the slot. -/
theorem step_recv (r : Fin 7) {h h'} {hl} {α : Type} {Q : α → sProp 𝕄} {k : Vec F S1x128x512 .bf16 → Prog (TpuEff nD τ sig (Elt F) Λ₀ .tc) α} :
    iprop(records m ∗ debt c 0 ∗ rvB c r)
      ⊢ iprop(((debt c 0 ∗ semVal (recvCell c r) 0 ∗ recvPay m c r)
          -∗ wp frame (wpE (defs₀ (F := F)) 𝒱₀ (c : Thread nD τ) none) Set.univ (k (arrived m c r)) Q)
        -∗ wp frame (wpE (defs₀ (F := F)) 𝒱₀ (c : Thread nD τ) none) Set.univ
            (.op (.waitDma2 (rS r) (sSq r) (rSq r) h h') fun _ => .op (.load rM (slotR r).toLoadRect hl) k) Q) := by
  unfold debt rvB
  iintro ⟨#HR, ⟨%W, HO⟩, Hc, Hat⟩ Hk
  ihave #HK := (records_elim m c (CI.recv r)) $$ HR
  unfold known
  icases HK with ⟨⟨%κ, #HI⟩, #Hre⟩
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      ((Nat.zero_add _).trans ((credit_recv r).trans (expect_xfer m c (.inr r)).symm))) $$ [Hc HO Hat]
  · isplitr; · iexact HI
    isplitl [Hc]; · rw [credit_recv]; iexact Hc
    isplitl [HO]; · iexact HO
    isplitr; · rw [MayWait_zero]; iempintro
    iexact Hat
  iintro ⟨HO, Hat, -, Hpay⟩
  imod (Rounds.cell_close ER (sched m) (Set.mem_univ κ) (fun h => h) (R := 0 + 1) (duties_later m (recvCell c r))) $$ [Hat] with Hz
  · isplitr; · iexact HI
    iexact Hat
  ihave Hp := (Entails.of_eq (rest_recv m c r)) $$ Hpay
  unfold recvPay owns
  icases Hp with ⟨%f, %hf, Hp⟩
  iapply (wp_load_rect 𝒱₀ (c : Thread nD τ) none Set.univ (m := rM) (r := slotR r) (Finset.Subset.refl _)) $$ Hp
  iintro Hp
  rw [show (rM.access (slotR r)).read (Elt F) f = arrived m c r from hf]
  iapply Hk
  isplitl [HO]; · iexists _; iexact HO
  isplitl [Hz]; · iexact Hz
  iexists f; isplitr; · ipureintro; exact hf
  iexact Hp

/-- A sent slot comes back. -/
theorem step_sent (r : Fin 7) {h h'} {α : Type} {Q : α → sProp 𝕄} {k : PUnit → Prog (TpuEff nD τ sig (Elt F) Λ₀ .tc) α} :
    iprop(records m ∗ debt c 0 ∗ cred (tallyAt (sendCell c r) () N) ∗ atPos ER (sendCell c r) 0 ∅ 0)
      ⊢ iprop(((debt c 0 ∗ semVal (sendCell c r) 0 ∗ sendPay c r)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.waitDma2 (sS r) (rSq r) (sSq r) h h') k) Q) := by
  unfold debt
  iintro ⟨#HR, ⟨%W, HO⟩, Hc, Hat⟩ Hk
  ihave #HK := (records_elim m c (CI.send r)) $$ HR
  unfold known
  icases HK with ⟨⟨%κ, #HI⟩, #Hre⟩
  iapply (Rounds.wp_wait_rest_token 𝒱₀ ER (sched m) (c : Thread nD τ) none (κ := κ)
      (wpE_waitDma2_eq 𝒱₀ (c : Thread nD τ) none Set.univ) (Set.mem_univ _) () (O := 0) (W := W) (R := 0) (m := 0) (T := ∅)
      ((Nat.zero_add _).trans ((credit_send r).trans (expect_xfer m c (.inl r)).symm))) $$ [Hc HO Hat]
  · isplitr; · iexact HI
    isplitl [Hc]; · rw [credit_send]; iexact Hc
    isplitl [HO]; · iexact HO
    isplitr; · rw [MayWait_zero]; iempintro
    iexact Hat
  iintro ⟨HO, Hat, -, Hpay⟩
  imod (Rounds.cell_close ER (sched m) (Set.mem_univ κ) (fun h => h) (R := 0 + 1) (duties_later m (sendCell c r))) $$ [Hat] with Hz
  · isplitr; · iexact HI
    iexact Hat
  ihave Hp := (Entails.of_eq (rest_send m c r)) $$ Hpay
  iapply Hk
  isplitl [HO]; · iexists _; iexact HO
  isplitl [Hz]; · iexact Hz
  iexact Hp

/-- The copy at offset `r + 1`, its slot holding the message, addressed to `n`, the device `r + 1` places on. -/
theorem step_copy (r : Fin 7) (n : Dev nD) (hn : n = fwd c r) {hsc} {hsrc} {hdst} {hsem}
    (fs : Buf (Elt F) ((sSl r).view.loc (c : Thread nD τ))) (hfs : (sSl r).view.read (Elt F) fs = msg m c r)
    {α : Type} {Q : α → sProp 𝕄} {k : PUnit → Prog (TpuEff nD τ sig (Elt F) Λ₀ .tc) α} :
    iprop(records m ∗ debt c (owedFrom (oRecv c) r.val) ∗ dutyTok ER (recvCell (fwd c r) r) 0 0 ∗ dutyTok ER (sendCell c r) 0 0
        ∗ ((sSl r).view.loc (c : Thread nD τ) ↦[(sSl r).view.set]{fullShare} fs) ∗ freePay (fwd c r) r)
      ⊢ iprop(((debt c (owedFrom (oRecv c) (r.val + 1)) ∗ cred (tallyAt (sendCell c r) () N))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma (sSq r) (.remote (Dev.tc n : Thread nD τ) (rSq r) (.dma (sS r)) hsc) (.dma (rS r)) hsrc hdst hsem) k) Q) := by
  subst hn
  unfold debt freePay owns
  iintro ⟨#HR, ⟨%W, HO⟩, Htr, Hts, Hs, ⟨%X, %fd, %hfd, Hd⟩⟩ Hk
  ihave #HK := (records_elim m c (CI.send r)) $$ HR
  ihave #HK' := (records_elim m (fwd c r) (CI.recv r)) $$ HR
  unfold known
  icases HK with ⟨⟨%κ, #HI⟩, #Hre⟩
  icases HK' with ⟨⟨%κ', #HI'⟩, #Hre'⟩
  iapply (Rounds.wp_send_pointsTo 𝒱₀ ER (sched m) (c : Thread nD τ) none (κ₁ := κ) (κ₂ := κ')
    (r₁ := 0) (r₂ := 0) (d₁ := 0) (d₂ := 0) (src := sSq r) (dst := rSq r) (fs := fs) (fd := fd) (q := fullShare) (W := W)
    (O₀ := owedFrom (oRecv c) r.val) (sS := .dma (sS r)) (sem := .dma (rS r)) (c' := (Dev.tc (fwd c r) : Thread nD τ))
    (by rw [show (sched m).duties (sendCell c r) 0 = {0} from duties_cell m c (CI.send r)]; exact Finset.mem_singleton_self _)
    (by rw [show (sched m).duties (recvCell (fwd c r) r) 0 = {0} from duties_cell m (fwd c r) (CI.recv r)]; exact Finset.mem_singleton_self _)
    () () N (credit_recv r) (amount_cell m c (CI.send r) 0) (amount_cell m (fwd c r) (CI.recv r) 0)
    (owedFrom (oRecv c) (r.val + 1)) (by rw [owedFrom_peel]; rfl)
    (by
      rw [show (sched m).payload (sendCell c r) 0 0 = sendPay c r from payload_cell m c (CI.send r) 0, View.set_reshape]
      unfold sendPay
      iintro H; iexists _
      iapply (owns_intro (c : Thread nD τ) (sSl r) fullShare fs); iexact H)
    ((copy_pay m c r fs fd hfs).trans (Entails.of_eq (payload_cell m (fwd c r) (CI.recv r) 0).symm))) $$ [Hs Hd HO Hts Htr]
  · isplitr; · iexact HI
    isplitr; · iexact HI'
    isplitl [Hs]; · rw [View.set_reshape]; iexact Hs
    isplitl [Hd]; · rw [View.set_reshape]; iexact Hd
    isplitl [HO]; · iexact HO
    isplitl [Hts]; · iexact Hts
    isplitr; · iexact Hre
    isplitl [Htr]; · iexact Htr
    iexact Hre'
  iintro ⟨Hc, HO⟩
  iapply Hk
  isplitl [HO]; · iexists W; iexact HO
  iexact Hc

/-- A block of rows: the six operand loads, the store of the message into its slot, and its copy. -/
theorem step_block (r : Fin 7) (n : Dev nD) (hn : n = fwd c r) {hsc} {hsrc} {hdst} {hsem} {h0 h1 h2 h3 h4 h5 h6} {h7} {h8}
    {P : Vec F S128x256 .bf16 → Vec F S128x4 .f32 → Vec F S1x256x512 .bf16 → Vec F S1x256x512 .bf16 → Vec F S1x256x512 .bf16 → Vec F S1x256x512 .bf16
      → FVec F S1x128x512 .bf16}
    (hP : ∀ x k w0 w1 w2 w3, P x k w0 w1 w2 w3 = partialOf x k w0 w1 w2 w3)
    {α : Type} {Q : α → sProp 𝕄} {k : PUnit → Prog (TpuEff nD τ sig (Elt F) Λ₀ .tc) α} :
    iprop(records m ∗ debt c (owedFrom (oRecv c) r.val) ∗ opsP m c ∗ cpB c r ∗ freePay (fwd c r) r)
      ⊢ iprop(((debt c (owedFrom (oRecv c) (r.val + 1)) ∗ opsP m c ∗ cred (tallyAt (sendCell c r) () N))
          -∗ wp frame (wpE (defs₀ (F := F)) 𝒱₀ (c : Thread nD τ) none) Set.univ (k ⟨⟩) Q)
        -∗ wp frame (wpE (defs₀ (F := F)) 𝒱₀ (c : Thread nD τ) none) Set.univ
            (.op (.load xM (xRect c r).toLoadRect h0) fun x => .op (.load cM (cRect c r).toLoadRect h1) fun kk =>
              .op (.load wM wRect0.toLoadRect h2) fun w0 => .op (.load wM wRect1.toLoadRect h3) fun w1 =>
              .op (.load wM wRect2.toLoadRect h4) fun w2 => .op (.load wM wRect3.toLoadRect h5) fun w3 =>
              .op (.load sM (slotR r).toLoadRect h6) fun _ => .op (.store sM (slotR r) (P x kk w0 w1 w2 w3) Finset.univ h7 h8) fun _ =>
              .op (.enqueueDma (sSq r) (.remote (Dev.tc n : Thread nD τ) (rSq r) (.dma (sS r)) hsc) (.dma (rS r)) hsrc hdst hsem) k) Q) := by
  unfold opsP cpB sendPay owns
  iintro ⟨#HR, HO, ⟨Hx, Hc, Hw⟩, ⟨Htr, Hts, ⟨%X, %f, %hf, Hs⟩⟩, Hd⟩ Hk
  iapply (wp_load 𝒱₀ (c : Thread nD τ) none Set.univ (m := xM) (Finset.subset_univ _)) $$ Hx; iintro Hx
  iapply (wp_load 𝒱₀ (c : Thread nD τ) none Set.univ (m := cM) (Finset.subset_univ _)) $$ Hc; iintro Hc
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load_rect 𝒱₀ (c : Thread nD τ) none Set.univ (m := sM) (r := slotR r) (Finset.Subset.refl _)) $$ Hs; iintro Hs
  iapply (wp_store 𝒱₀ (c : Thread nD τ) none Set.univ (m := sM) (r := slotR r) (Mk := Finset.univ) (View.setOn_subset_set _ _)) $$ Hs; iintro Hs
  rw [hP]
  iapply (step_copy m c r n hn _ ((View.read_write_univ _ _).trans rfl)) $$ [HO Htr Hts Hs Hd]
  · isplitr; · iexact HR
    isplitl [HO]; · iexact HO
    isplitl [Htr]; · iexact Htr
    isplitl [Hts]; · iexact Hts
    isplitl [Hs]; · iexact Hs
    unfold freePay owns; iexact Hd
  iintro ⟨HO, Hcr⟩
  iapply Hk
  isplitl [HO]; · iexact HO
  isplitl [Hx Hc Hw]
  · isplitl [Hx]; · iexact Hx
    isplitl [Hc]; · iexact Hc
    iexact Hw
  iexact Hcr

/-- The device's own block of rows: six loads. -/
theorem step_own {α : Type} {Q : α → sProp 𝕄} {h0 h1 h2 h3 h4 h5} {k : Vec F S128x256 .bf16 → Vec F S128x4 .f32 → Vec F S1x256x512 .bf16 → Vec F S1x256x512 .bf16
      → Vec F S1x256x512 .bf16 → Vec F S1x256x512 .bf16 → Prog (TpuEff nD τ sig (Elt F) Λ₀ .tc) α} :
    opsP m c
      ⊢ iprop((opsP m c
          -∗ wp frame (wpE (defs₀ (F := F)) 𝒱₀ (c : Thread nD τ) none) Set.univ
            (k (xM.view.readAt (Elt F) (xOwn c).toLoadRect (xV m c)) (cM.view.readAt (Elt F) (cOwn c).toLoadRect (kV m c))
              (wM.view.readAt (Elt F) wRect0.toLoadRect (wV m c)) (wM.view.readAt (Elt F) wRect1.toLoadRect (wV m c))
              (wM.view.readAt (Elt F) wRect2.toLoadRect (wV m c)) (wM.view.readAt (Elt F) wRect3.toLoadRect (wV m c))) Q)
        -∗ wp frame (wpE (defs₀ (F := F)) 𝒱₀ (c : Thread nD τ) none) Set.univ
            (.op (.load xM (xOwn c).toLoadRect h0) fun x => .op (.load cM (cOwn c).toLoadRect h1) fun kk =>
              .op (.load wM wRect0.toLoadRect h2) fun w0 => .op (.load wM wRect1.toLoadRect h3) fun w1 =>
              .op (.load wM wRect2.toLoadRect h4) fun w2 => .op (.load wM wRect3.toLoadRect h5) fun w3 => k x kk w0 w1 w2 w3) Q) := by
  unfold opsP
  iintro ⟨Hx, Hc, Hw⟩ Hk
  iapply (wp_load 𝒱₀ (c : Thread nD τ) none Set.univ (m := xM) (Finset.subset_univ _)) $$ Hx; iintro Hx
  iapply (wp_load 𝒱₀ (c : Thread nD τ) none Set.univ (m := cM) (Finset.subset_univ _)) $$ Hc; iintro Hc
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply Hk
  isplitl [Hx]; · iexact Hx
  isplitl [Hc]; · iexact Hc
  iexact Hw

end Steps

end Cert.Exchange
-- ==== Proof.Body.lean ====
/-
The body of the kernel on one device, from the exchange's start to its end: the scratch buffers cut into slots and put
together again, and the body run step by step.
-/
module

public import proofs.«01_k».proof.Proof.Steps
public import proofs.«01_k».proof.Proof.Gen.KernelIdeal.Points

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The slots of the two exchange buffers -/

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem slots_disjoint : ∀ r ∈ (Finset.univ : Finset (Fin 7)), ∀ r' ∈ (Finset.univ : Finset (Fin 7)), r ≠ r' →
    Disjoint (slotR r).set (slotR r').set := by
  intro r _ r' _ h
  rw [Finset.disjoint_left]
  intro i hi hi'
  rw [Rect.mem_set_unit] at hi hi'
  have h1 := hi 0
  have h2 := hi' 0
  apply h
  apply Fin.ext
  change r.val + 1 ≤ (i 0).val ∧ (i 0).val < r.val + 1 + 1 at h1
  change r'.val + 1 ≤ (i 0).val ∧ (i 0).val < r'.val + 1 + 1 at h2
  omega

abbrev slotSet : Finset S8x128x512.Idx := Finset.univ.biUnion fun r : Fin 7 => (slotR r).set

omit [FloatOps F] in
theorem send_split (c : Dev nD) (f : Buf (Elt F) ((c : Thread nD τ).loc cc0_scratch1)) :
    (((c : Thread nD τ).loc cc0_scratch1) ↦{fullShare} f : sProp 𝕄)
      ⊢ iprop((((c : Thread nD τ).loc cc0_scratch1) ↦[Finset.univ \ slotSet]{fullShare} f) ∗ bigSep Finset.univ fun r => sendPay (F := F) c r) := by
  refine ((pointsTo_split_subset (I := slotSet) (Finset.subset_univ _)).1).trans ?_
  rw [pointsTo_biUnion (ℓ := ((c : Thread nD τ).loc cc0_scratch1)) Finset.univ (fun r : Fin 7 => (slotR r).set) slots_disjoint]
  iintro ⟨H, Hr⟩
  isplitl [Hr]; · iexact Hr
  have h : (bigSep Finset.univ fun r : Fin 7 => (((c : Thread nD τ).loc cc0_scratch1) ↦[(slotR r).set]{fullShare} f : sProp 𝕄)) ⊢ (bigSep Finset.univ fun r => sendPay (F := F) c r) :=
    bigSep_mono fun r _ => (show (((c : Thread nD τ).loc cc0_scratch1) ↦[(slotR r).set]{fullShare} f : sProp 𝕄) ⊢ sendPay c r from by
    unfold sendPay
    iintro H; iexists _
    iapply (owns_intro (c : Thread nD τ) (sSl r) fullShare f)
    rw [show (sSl r).view.set = (slotR r).set from View.set_slice_whole _ _]
    iexact H)
  iapply h
  iexact H

omit [FloatOps F] in
theorem recv_split (c : Dev nD) (f : Buf (Elt F) ((c : Thread nD τ).loc cc0_scratch2)) :
    (((c : Thread nD τ).loc cc0_scratch2) ↦{fullShare} f : sProp 𝕄)
      ⊢ iprop((((c : Thread nD τ).loc cc0_scratch2) ↦[Finset.univ \ slotSet]{fullShare} f) ∗ bigSep Finset.univ fun r => freePay (F := F) c r) := by
  refine ((pointsTo_split_subset (I := slotSet) (Finset.subset_univ _)).1).trans ?_
  rw [pointsTo_biUnion (ℓ := ((c : Thread nD τ).loc cc0_scratch2)) Finset.univ (fun r : Fin 7 => (slotR r).set) slots_disjoint]
  iintro ⟨H, Hr⟩
  isplitl [Hr]; · iexact Hr
  have h : (bigSep Finset.univ fun r : Fin 7 => (((c : Thread nD τ).loc cc0_scratch2) ↦[(slotR r).set]{fullShare} f : sProp 𝕄)) ⊢ (bigSep Finset.univ fun r => freePay (F := F) c r) :=
    bigSep_mono fun r _ => (show (((c : Thread nD τ).loc cc0_scratch2) ↦[(slotR r).set]{fullShare} f : sProp 𝕄) ⊢ freePay c r from by
    unfold freePay
    iintro H; iexists _
    iapply (owns_intro (c : Thread nD τ) (rSl r) fullShare f)
    rw [show (rSl r).view.set = (slotR r).set from View.set_slice_whole _ _]
    iexact H)
  iapply h
  iexact H

omit [FloatOps F] in
/-- Seven slots at some contents and the rest of the buffer are the buffer at some contents. -/
theorem slots_join (ℓ : Loc nD τ sig) (K : Fin 7 → Finset (Idx ℓ)) (hK : ∀ r ∈ (Finset.univ : Finset (Fin 7)), ∀ r' ∈ (Finset.univ : Finset (Fin 7)), r ≠ r' → Disjoint (K r) (K r'))
    (f : Buf (Elt F) ℓ) :
    iprop((ℓ ↦[Finset.univ \ Finset.univ.biUnion K]{fullShare} f) ∗ bigSep Finset.univ fun r => iprop(∃ g, ℓ ↦[K r]{fullShare} g))
      ⊢ (iprop(∃ g, ℓ ↦{fullShare} g) : sProp 𝕄) := by
  haveI : Nonempty (Buf (Elt F) ℓ) := ⟨f⟩
  iintro ⟨Hr, H⟩
  ihave H := (BI.bigSep_exists_pi Finset.univ (fun (r : Fin 7) (g : Buf (Elt F) ℓ) => (ℓ ↦[K r]{fullShare} g : sProp 𝕄))) $$ H
  icases H with ⟨%fs, H⟩
  ihave H := (pointsTo_biUnion_join Finset.univ K fs f hK) $$ H
  icases H with ⟨%g, -, H⟩
  iexists _
  iapply (pointsTo_join_subset (S := Finset.univ) (I := Finset.univ.biUnion K) (g := g) (f := f) (Finset.subset_univ _))
  isplitl [H]; · iexact H
  iexact Hr

omit [FloatOps F] in
theorem send_join (c : Dev nD) (f : Buf (Elt F) ((c : Thread nD τ).loc cc0_scratch1)) :
    iprop((((c : Thread nD τ).loc cc0_scratch1) ↦[Finset.univ \ slotSet]{fullShare} f) ∗ bigSep Finset.univ fun r => sendPay (F := F) c r)
      ⊢ (iprop(∃ g, ((c : Thread nD τ).loc cc0_scratch1) ↦{fullShare} g) : sProp 𝕄) := by
  refine (sep_mono_right (bigSep_mono fun r _ => ?_)).trans (slots_join ((c : Thread nD τ).loc cc0_scratch1) (fun r => (slotR r).set) slots_disjoint f)
  unfold sendPay owns
  rw [show (sSl r).view.set = (slotR r).set from View.set_slice_whole _ _]
  show (_ : sProp 𝕄) ⊢ _
  iintro ⟨%X, %g, -, H⟩
  iexists g; iexact H

theorem recv_join (c : Dev nD) (f : Buf (Elt F) ((c : Thread nD τ).loc cc0_scratch2)) :
    iprop((((c : Thread nD τ).loc cc0_scratch2) ↦[Finset.univ \ slotSet]{fullShare} f) ∗ bigSep Finset.univ fun r => recvPay m c r)
      ⊢ (iprop(∃ g, ((c : Thread nD τ).loc cc0_scratch2) ↦{fullShare} g) : sProp 𝕄) := by
  refine (sep_mono_right (bigSep_mono fun r _ => ?_)).trans (slots_join ((c : Thread nD τ).loc cc0_scratch2) (fun r => (slotR r).set) slots_disjoint f)
  unfold recvPay owns
  rw [show (rSl r).view.set = (slotR r).set from View.set_slice_whole _ _]
  show (_ : sProp 𝕄) ⊢ _
  iintro ⟨%g, -, H⟩
  iexists g; iexact H

/-! ## What a device starts from and ends with -/

/-- The two DMA semaphores of the arrays' first places, which no copy uses. -/
abbrev sp0 : DmaSem sig := cc0_scratch3.ix (fun a => ⟨0, by revert a; decide⟩)
abbrev sp1 : DmaSem sig := cc0_scratch4.ix (fun a => ⟨0, by revert a; decide⟩)
def spare (c : Dev nD) : sProp 𝕄 := iprop(semVal ((c : Thread nD τ), .dma sp0) 0 ∗ semVal ((c : Thread nD τ), .dma sp1) 0)

/-- The duty tokens device `c` pays with. -/
def payT (c : Dev nD) (r : Fin 7) : sProp 𝕄 :=
  iprop(dutyTok ER (barCell (fwd c r)) 0 r ∗ dutyTok ER (recvCell (fwd c r) r) 0 0 ∗ dutyTok ER (sendCell c r) 0 0)

/-- The exchange's ghost state of device `c`. -/
def ghost (c : Dev nD) : sProp 𝕄 :=
  iprop(records m ∗ (bigSep Finset.univ fun k : CI => atPos ER (kcell (c, k)) 0 ∅ 0) ∗ (bigSep Finset.univ fun r => payT (F := F) c r) ∗ spare c)

def start (c : Dev nD) : sProp 𝕄 :=
  iprop(ghost m c ∗ cred (tallyAt (barCell c) () 7) ∗ (bigSep Finset.univ fun r : Fin 7 => cred (tallyAt (recvCell c r) () N)) ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
/-- After the body: the scratch buffers, and every semaphore at zero. -/
def Φ₁ (c : Dev nD) : sProp 𝕄 :=
  iprop(scratch c ∗ semVal (barCell c) 0 ∗ (bigSep Finset.univ fun r : Fin 7 => semVal (sendCell c r) 0)
    ∗ (bigSep Finset.univ fun r : Fin 7 => semVal (recvCell c r) 0) ∗ spare c)

def dats (_ : Fin 1) (c : Dev nD) : Dat τ (Elt F) Unit ℕ UU ℕ cfg0 c where
  A w := m ((cfg0.win w).arr.view.loc (c : Thread nD τ))
  after w _ := match w with
    | ⟨0, _⟩ => xV m c
    | ⟨1, _⟩ => gV m c
    | ⟨2, _⟩ => iV m c
    | ⟨3, _⟩ => wV m c
    | ⟨4, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer at stated contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

omit [FloatOps F] in
theorem hz2 : (![0, 0] : Fin 2 → Nat) = fun _ => 0 := funext fun a => by fin_cases a <;> rfl

/-- A buffer of device `c` at stated contents. -/
abbrev buf (c : Dev nD) (b : Ref sig .tc) (X : b.ty.Contents (Elt F)) : sProp 𝕄 :=
  ((c : Thread nD τ).loc b) ↦{fullShare} (X : Buf (Elt F) ((c : Thread nD τ).loc b))

/-- The store of the whole coefficient table. -/
theorem store_coeff (c : Dev nD) {k0 V w : (cc0_scratch0 : Ref sig .tc).ty.Contents (Elt F)} (hw : w = V) {hx hm} {α : Type} {Q : α → sProp 𝕄}
    {k : PUnit → Prog (TpuEff nD τ sig (Elt F) Λ₀ .tc) α} :
    buf c cc0_scratch0 k0
      ⊢ iprop((buf c cc0_scratch0 V -∗ wp frame (wpE (defs₀ (F := F)) 𝒱₀ (c : Thread nD τ) none) Set.univ (k ⟨⟩) Q)
        -∗ wp frame (wpE (defs₀ (F := F)) 𝒱₀ (c : Thread nD τ) none) Set.univ
          (.op (.store cM (Rect.unit (s := S1024x4) ![0, 0] S1024x4.size inb_S1024x4_S1024x4_0_0) w Finset.univ hx hm) k) Q) := by
  subst hw
  iintro Hb Hk
  iapply (wp_store 𝒱₀ (c : Thread nD τ) none Set.univ (m := cM) (r := Rect.unit (s := S1024x4) ![0, 0] S1024x4.size inb_S1024x4_S1024x4_0_0)
    (Mk := Finset.univ) (Finset.subset_univ _)) $$ Hb
  rw [show (cM.access (Rect.unit (s := S1024x4) ![0, 0] S1024x4.size inb_S1024x4_S1024x4_0_0) : View sig .tc _ _ _).write (Elt F) k0 w Finset.univ = w from
    Memref.write_access_unit_zero_univ (Elt F) cc0_scratch0 hz2 inb_S1024x4_S1024x4_0_0 k0 w]
  iexact Hk

/-- The store of the whole result. -/
theorem store_result (c : Dev nD) {k0 V w : (cc0_stg4_0 : Ref sig .tc).ty.Contents (Elt F)} (hw : w = V) {hx hm} {α : Type} {Q : α → sProp 𝕄}
    {k : PUnit → Prog (TpuEff nD τ sig (Elt F) Λ₀ .tc) α} :
    buf c cc0_stg4_0 k0
      ⊢ iprop((buf c cc0_stg4_0 V -∗ wp frame (wpE (defs₀ (F := F)) 𝒱₀ (c : Thread nD τ) none) Set.univ (k ⟨⟩) Q)
        -∗ wp frame (wpE (defs₀ (F := F)) 𝒱₀ (c : Thread nD τ) none) Set.univ
          (.op (.store oM (Rect.unit (s := S128x512) ![0, 0] S128x512.size inb_S128x512_S128x512_0_0) w Finset.univ hx hm) k) Q) := by
  subst hw
  iintro Hb Hk
  iapply (wp_store 𝒱₀ (c : Thread nD τ) none Set.univ (m := oM) (r := Rect.unit (s := S128x512) ![0, 0] S128x512.size inb_S128x512_S128x512_0_0)
    (Mk := Finset.univ) (Finset.subset_univ _)) $$ Hb
  rw [show (oM.access (Rect.unit (s := S128x512) ![0, 0] S128x512.size inb_S128x512_S128x512_0_0) : View sig .tc _ _ _).write (Elt F) k0 w Finset.univ = w from
    Memref.write_access_unit_zero_univ (Elt F) cc0_stg4_0 hz2 inb_S128x512_S128x512_0_0 k0 w]
  iexact Hk

/-- What the body runs from. -/
def bodyIn (c : Dev nD) : sProp 𝕄 :=
  iprop(records m ∗ levAts L lv ∗ cred (tallyAt (barCell c) () 7) ∗ atPos ER (barCell c) 0 ∅ 0 ∗ debt c (O₀ c)
    ∗ (bigSep Finset.univ fun r : Fin 7 => sigB (F := F) c r) ∗ (bigSep Finset.univ fun r : Fin 7 => cpB (F := F) c r)
    ∗ (bigSep Finset.univ fun r : Fin 7 => rvB (F := F) c r) ∗ (bigSep Finset.univ fun r : Fin 7 => atPos ER (sendCell c r) 0 ∅ 0)
    ∗ buf c cc0_stg0_0 (xV m c) ∗ buf c cc0_stg1_0 (gV m c) ∗ buf c cc0_stg2_0 (iV m c) ∗ buf c cc0_stg3_0 (wV m c)
    ∗ (∃ o, buf c cc0_stg4_0 o) ∗ (∃ k, buf c cc0_scratch0 k))

/-- What it leaves. -/
def bodyOut (c : Dev nD) : sProp 𝕄 :=
  iprop(debt c 0 ∗ semVal (barCell c) 0
    ∗ (bigSep Finset.univ fun r : Fin 7 => iprop(semVal (sendCell c r) 0 ∗ sendPay (F := F) c r))
    ∗ (bigSep Finset.univ fun r : Fin 7 => iprop(semVal (recvCell c r) 0 ∗ recvPay m c r))
    ∗ buf c cc0_stg0_0 (xV m c) ∗ buf c cc0_stg1_0 (gV m c) ∗ buf c cc0_stg2_0 (iV m c) ∗ buf c cc0_stg3_0 (wV m c)
    ∗ buf c cc0_stg4_0 (outV m c) ∗ buf c cc0_scratch0 (kV m c))

set_option maxHeartbeats 8000000 in
theorem body_run (c : Dev nD) (Q : PUnit → sProp 𝕄) :
    iprop(bodyIn m c ∗ (bodyOut m c -∗ Q ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) Q := by
  simp only [cc0_body_eq_skeleton]; unfold cc0_body_skel
  simp only [k0_part21_eq_skeleton]; unfold k0_part21_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel k0_part16_skel
    k0_part17_skel k0_part18_skel k0_part19_skel k0_part20_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c]
  unfold bodyIn bodyOut
  simp only [bigSep_fin7]
  iintro ⟨⟨#HR, #Hlev, HcB, HatB, HO, ⟨S0, S1, S2, S3, S4, S5, S6⟩, ⟨C0, C1, C2, C3, C4, C5, C6⟩, ⟨V0, V1, V2, V3, V4, V5, V6⟩, ⟨A0, A1, A2, A3, A4, A5, A6⟩, Hx, Hg, Hi, Hw, ⟨%o, Ho⟩, ⟨%k0, Hk0⟩⟩, Hk⟩
  unfold O₀
  iapply (step_signal m c 0 (owedFrom (oRecv c) 0)) $$ [HO S0]
  · isplitr; · iexact HR
    isplitl [HO]; · iexact HO
    iexact S0
  iintro HO
  iapply (step_signal m c 1 (owedFrom (oRecv c) 0)) $$ [HO S1]
  · isplitr; · iexact HR
    isplitl [HO]; · iexact HO
    iexact S1
  iintro HO
  iapply (step_signal m c 2 (owedFrom (oRecv c) 0)) $$ [HO S2]
  · isplitr; · iexact HR
    isplitl [HO]; · iexact HO
    iexact S2
  iintro HO
  iapply (step_signal m c 3 (owedFrom (oRecv c) 0)) $$ [HO S3]
  · isplitr; · iexact HR
    isplitl [HO]; · iexact HO
    iexact S3
  iintro HO
  iapply (step_signal m c 4 (owedFrom (oRecv c) 0)) $$ [HO S4]
  · isplitr; · iexact HR
    isplitl [HO]; · iexact HO
    iexact S4
  iintro HO
  iapply (step_signal m c 5 (owedFrom (oRecv c) 0)) $$ [HO S5]
  · isplitr; · iexact HR
    isplitl [HO]; · iexact HO
    iexact S5
  iintro HO
  iapply (step_signal m c 6 (owedFrom (oRecv c) 0)) $$ [HO S6]
  · isplitr; · iexact HR
    isplitl [HO]; · iexact HO
    iexact S6
  iintro HO
  iapply (step_barrier m c) $$ [HO HcB HatB]
  · isplitr; · iexact HR
    isplitr; · iexact Hlev
    isplitl [HcB]; · iexact HcB
    isplitl [HO]; · iexact HO
    iexact HatB
  simp only [bigSep_fin7]
  iintro ⟨HO, HzB, ⟨F0, F1, F2, F3, F4, F5, F6⟩⟩
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := iM) (Finset.subset_univ _)) $$ Hi; iintro Hi
  iapply (wp_load 𝒱₀ (c : Thread nD τ) none Set.univ (m := iM) (Finset.subset_univ _)) $$ Hi; iintro Hi
  iapply (wp_load 𝒱₀ (c : Thread nD τ) none Set.univ (m := cM) (Finset.subset_univ _)) $$ Hk0; iintro Hk0
  have e0 := Memref.readAt_unit_zero (Elt F) cc0_stg0_0 hz2 inb_S1024x256_S1024x256_0_0 (xV m c)
  have e1 := Memref.readAt_unit_zero (Elt F) cc0_stg1_0 hz2 inb_S256x32_S256x32_0_0 (gV m c)
  have ec : coeffOf c (xM.view.readAt (Elt F) (Rect.unit (s := S1024x256) ![0, 0] S1024x256.size inb_S1024x256_S1024x256_0_0).toLoadRect (xV m c))
      (gM.view.readAt (Elt F) (Rect.unit (s := S256x32) ![0, 0] S256x32.size inb_S256x32_S256x32_0_0).toLoadRect (gV m c))
      (iM.view.readAt (Elt F) iRect0.toLoadRect (iV m c)) (iM.view.readAt (Elt F) iRect1.toLoadRect (iV m c)) = kV m c :=
    congrArg₂ (fun X G => coeffOf c X G (iM.view.readAt (Elt F) iRect0.toLoadRect (iV m c)) (iM.view.readAt (Elt F) iRect1.toLoadRect (iV m c))) e0 e1
  iapply (store_coeff c (V := kV m c) ec) $$ Hk0; iintro Hc
  ihave Hp : opsP m c $$ [Hx Hc Hw]
  · unfold opsP
    isplitl [Hx]; · iexact Hx
    isplitl [Hc]; · iexact Hc
    iexact Hw
  iapply (step_block m c 0 _ (dev8_eq c) (P := fun x k w0 w1 w2 w3 => k0_pay19 (k0_pay16 x) k (k0_pay17 x k w0 w1) (k0_pay18 x k) w2 w3) (fun _ _ _ _ _ _ => rfl)) $$ [HO Hp C0 F0]
  · isplitr; · iexact HR
    isplitl [HO]; · iexact HO
    isplitl [Hp]; · iexact Hp
    isplitl [C0]; · iexact C0
    iexact F0
  iintro ⟨HO, Hp, T0⟩
  iapply (step_block m c 1 _ (dev9_eq c) (P := fun x k w0 w1 w2 w3 => k0_pay22 (k0_pay21 (k0_pay20 x) k w0 w1 w2 w3)) (fun _ _ _ _ _ _ => rfl)) $$ [HO Hp C1 F1]
  · isplitr; · iexact HR
    isplitl [HO]; · iexact HO
    isplitl [Hp]; · iexact Hp
    isplitl [C1]; · iexact C1
    iexact F1
  iintro ⟨HO, Hp, T1⟩
  iapply (step_block m c 2 _ (dev10_eq c) (P := fun x k w0 w1 w2 w3 => k0_pay27 (k0_pay23 x) k (k0_pay24 x k w0) (k0_pay25 x) (k0_pay26 k) w1 w2 w3) (fun _ _ _ _ _ _ => rfl)) $$ [HO Hp C2 F2]
  · isplitr; · iexact HR
    isplitl [HO]; · iexact HO
    isplitl [Hp]; · iexact Hp
    isplitl [C2]; · iexact C2
    iexact F2
  iintro ⟨HO, Hp, T2⟩
  iapply (step_block m c 3 _ (dev11_eq c) (P := fun x k w0 w1 w2 w3 => k0_pay31 (k0_pay28 x) k (k0_pay29 x k w0 w1) (k0_pay30 x k w2) w3) (fun _ _ _ _ _ _ => rfl)) $$ [HO Hp C3 F3]
  · isplitr; · iexact HR
    isplitl [HO]; · iexact HO
    isplitl [Hp]; · iexact Hp
    isplitl [C3]; · iexact C3
    iexact F3
  iintro ⟨HO, Hp, T3⟩
  iapply (step_block m c 4 _ (dev12_eq c) (P := fun x k w0 w1 w2 w3 => k0_pay34 (k0_pay32 x) k k0_pay33 w0 w1 w2 w3) (fun _ _ _ _ _ _ => rfl)) $$ [HO Hp C4 F4]
  · isplitr; · iexact HR
    isplitl [HO]; · iexact HO
    isplitl [Hp]; · iexact Hp
    isplitl [C4]; · iexact C4
    iexact F4
  iintro ⟨HO, Hp, T4⟩
  iapply (step_block m c 5 _ (dev13_eq c) (P := fun x k w0 w1 w2 w3 => k0_pay38 (k0_pay35 x) k (k0_pay36 x k w0) (k0_pay37 x k) w1 w2 w3) (fun _ _ _ _ _ _ => rfl)) $$ [HO Hp C5 F5]
  · isplitr; · iexact HR
    isplitl [HO]; · iexact HO
    isplitl [Hp]; · iexact Hp
    isplitl [C5]; · iexact C5
    iexact F5
  iintro ⟨HO, Hp, T5⟩
  iapply (step_block m c 6 _ (dev14_eq c) (P := fun x k w0 w1 w2 w3 => k0_pay42 (k0_pay40 x k w0 w1 w2) (k0_pay41 x k) w3) (fun _ _ _ _ _ _ => rfl)) $$ [HO Hp C6 F6]
  · isplitr; · iexact HR
    isplitl [HO]; · iexact HO
    isplitl [Hp]; · iexact Hp
    isplitl [C6]; · iexact C6
    iexact F6
  iintro ⟨HO, Hp, T6⟩
  iapply (step_own m c) $$ Hp; iintro Hp
  rw [show ((6 : Fin 7).val + 1) = 7 from rfl, owedFrom_seven]
  iapply (step_recv m c 0) $$ [HO V0]
  · isplitr; · iexact HR
    isplitl [HO]; · iexact HO
    iexact V0
  iintro ⟨HO, ZV0, D0⟩
  iapply (step_recv m c 1) $$ [HO V1]
  · isplitr; · iexact HR
    isplitl [HO]; · iexact HO
    iexact V1
  iintro ⟨HO, ZV1, D1⟩
  iapply (step_recv m c 2) $$ [HO V2]
  · isplitr; · iexact HR
    isplitl [HO]; · iexact HO
    iexact V2
  iintro ⟨HO, ZV2, D2⟩
  iapply (step_recv m c 3) $$ [HO V3]
  · isplitr; · iexact HR
    isplitl [HO]; · iexact HO
    iexact V3
  iintro ⟨HO, ZV3, D3⟩
  iapply (step_recv m c 4) $$ [HO V4]
  · isplitr; · iexact HR
    isplitl [HO]; · iexact HO
    iexact V4
  iintro ⟨HO, ZV4, D4⟩
  iapply (step_recv m c 5) $$ [HO V5]
  · isplitr; · iexact HR
    isplitl [HO]; · iexact HO
    iexact V5
  iintro ⟨HO, ZV5, D5⟩
  iapply (step_recv m c 6) $$ [HO V6]
  · isplitr; · iexact HR
    isplitl [HO]; · iexact HO
    iexact V6
  iintro ⟨HO, ZV6, D6⟩
  iapply (wp_load 𝒱₀ (c : Thread nD τ) none Set.univ (m := oM) (Finset.subset_univ _)) $$ Ho; iintro Ho
  iapply (store_result c (V := outV m c) rfl) $$ Ho; iintro Hout
  iapply (step_sent m c 0) $$ [HO T0 A0]
  · isplitr; · iexact HR
    isplitl [HO]; · iexact HO
    isplitl [T0]; · iexact T0
    iexact A0
  iintro ⟨HO, ZS0, E0⟩
  iapply (step_sent m c 1) $$ [HO T1 A1]
  · isplitr; · iexact HR
    isplitl [HO]; · iexact HO
    isplitl [T1]; · iexact T1
    iexact A1
  iintro ⟨HO, ZS1, E1⟩
  iapply (step_sent m c 2) $$ [HO T2 A2]
  · isplitr; · iexact HR
    isplitl [HO]; · iexact HO
    isplitl [T2]; · iexact T2
    iexact A2
  iintro ⟨HO, ZS2, E2⟩
  iapply (step_sent m c 3) $$ [HO T3 A3]
  · isplitr; · iexact HR
    isplitl [HO]; · iexact HO
    isplitl [T3]; · iexact T3
    iexact A3
  iintro ⟨HO, ZS3, E3⟩
  iapply (step_sent m c 4) $$ [HO T4 A4]
  · isplitr; · iexact HR
    isplitl [HO]; · iexact HO
    isplitl [T4]; · iexact T4
    iexact A4
  iintro ⟨HO, ZS4, E4⟩
  iapply (step_sent m c 5) $$ [HO T5 A5]
  · isplitr; · iexact HR
    isplitl [HO]; · iexact HO
    isplitl [T5]; · iexact T5
    iexact A5
  iintro ⟨HO, ZS5, E5⟩
  iapply (step_sent m c 6) $$ [HO T6 A6]
  · isplitr; · iexact HR
    isplitl [HO]; · iexact HO
    isplitl [T6]; · iexact T6
    iexact A6
  iintro ⟨HO, ZS6, E6⟩
  rw [wp_ret]
  imodintro
  iapply Hk
  unfold opsP
  icases Hp with ⟨Hx, Hc, Hw⟩
  isplitl [HO]; · iexact HO
  isplitl [HzB]; · iexact HzB
  isplitl [ZS0 E0 ZS1 E1 ZS2 E2 ZS3 E3 ZS4 E4 ZS5 E5 ZS6 E6]
  · isplitl [ZS0 E0]
    · isplitl [ZS0]; · iexact ZS0
      iexact E0
    isplitl [ZS1 E1]
    · isplitl [ZS1]; · iexact ZS1
      iexact E1
    isplitl [ZS2 E2]
    · isplitl [ZS2]; · iexact ZS2
      iexact E2
    isplitl [ZS3 E3]
    · isplitl [ZS3]; · iexact ZS3
      iexact E3
    isplitl [ZS4 E4]
    · isplitl [ZS4]; · iexact ZS4
      iexact E4
    isplitl [ZS5 E5]
    · isplitl [ZS5]; · iexact ZS5
      iexact E5
    isplitl [ZS6]; · iexact ZS6
    iexact E6
  isplitl [ZV0 D0 ZV1 D1 ZV2 D2 ZV3 D3 ZV4 D4 ZV5 D5 ZV6 D6]
  · isplitl [ZV0 D0]
    · isplitl [ZV0]; · iexact ZV0
      iexact D0
    isplitl [ZV1 D1]
    · isplitl [ZV1]; · iexact ZV1
      iexact D1
    isplitl [ZV2 D2]
    · isplitl [ZV2]; · iexact ZV2
      iexact D2
    isplitl [ZV3 D3]
    · isplitl [ZV3]; · iexact ZV3
      iexact D3
    isplitl [ZV4 D4]
    · isplitl [ZV4]; · iexact ZV4
      iexact D4
    isplitl [ZV5 D5]
    · isplitl [ZV5]; · iexact ZV5
      iexact D5
    isplitl [ZV6]; · iexact ZV6
    iexact D6
  isplitl [Hx]; · iexact Hx
  isplitl [Hg]; · iexact Hg
  isplitl [Hi]; · iexact Hi
  isplitl [Hw]; · iexact Hw
  isplitl [Hout]; · iexact Hout
  iexact Hc

/-! ## The library's obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

omit [FloatOps F] in
/-- The positions at a device's cells, by kind of cell. -/
theorem positions (c : Dev nD) :
    (bigSep Finset.univ fun k : CI => (atPos ER (kcell (c, k)) 0 ∅ 0 : sProp 𝕄))
      = iprop(atPos ER (barCell c) 0 ∅ 0 ∗ (bigSep Finset.univ fun r : Fin 7 => atPos ER (sendCell c r) 0 ∅ 0)
        ∗ (bigSep Finset.univ fun r : Fin 7 => atPos ER (recvCell c r) 0 ∅ 0)) := by
  rw [bigSep_univ_sum, bigSep_univ_sum, bigSep_univ_eq_bigSepL [()] (by decide) (by decide)]
  rfl

omit [FloatOps F] in
/-- The tokens and the slots, bundled by signal and by copy. -/
theorem bundles (c : Dev nD) :
    iprop((bigSep Finset.univ fun r => payT (F := F) c r) ∗ (bigSep Finset.univ fun r => sendPay (F := F) c r) ∗ (bigSep Finset.univ fun r => freePay (F := F) c r))
      ⊢ iprop((bigSep Finset.univ fun r : Fin 7 => sigB (F := F) c r) ∗ (bigSep Finset.univ fun r : Fin 7 => cpB (F := F) c r)) := by
  rw [bigSep_univ_equiv Fin.revPerm (fun r : Fin 7 => freePay (F := F) c r)]
  unfold payT sigB cpB
  rw [bigSep_sep', bigSep_sep', bigSep_sep', bigSep_sep', bigSep_sep']
  iintro ⟨⟨H1, H2, H3⟩, Hs, Hf⟩
  isplitl [H1 Hf]
  · isplitl [H1]; · iexact H1
    iexact Hf
  isplitl [H2]; · iexact H2
  isplitl [H3]; · iexact H3
  iexact Hs

def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ c ∗ (dats m 0 c).owesAt () t0_0.succ ∗ stg c cc0_stg0_0 (xV m c) ∗ stg c cc0_stg1_0 (gV m c) ∗ stg c cc0_stg2_0 (iV m c)
    ∗ stg c cc0_stg3_0 (wV m c) ∗ stg c cc0_stg4_0 (outV m c))

theorem body_sound (c : Dev nD) :
    bodyPre m c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4) (fun _ => bodyPost m c) := by
  unfold bodyPre Φ₀ start ghost scratch
  rw [positions]
  iintro ⟨⟨⟨⟨#HR, ⟨HaB, HaS, HaV⟩, Htok, Hsp⟩, HcB, HcV, #Hlev⟩, ⟨%f0, Hk⟩, ⟨%f1, Hsb⟩, ⟨%f2, Hrb⟩⟩, Ho,
    ⟨%d0, %g0, %hg0, Hx⟩, ⟨%d1, %g1, %hg1, Hg⟩, ⟨%d2, %g2, %hg2, Hi⟩, ⟨%d3, %g3, %hg3, Hw⟩, ⟨%d4, %g4, %hg4, Hout⟩⟩
  have h0 : g0 = xV m c := by rw [hg0]; unfold Dat.before; rw [if_pos (fetch0_0 t0_0)]; rfl
  have h1 : g1 = gV m c := by rw [hg1]; unfold Dat.before; rw [if_pos (fetch0_1 t0_0)]; rfl
  have h2 : g2 = iV m c := by rw [hg2]; unfold Dat.before; rw [if_pos (fetch0_2 t0_0)]; rfl
  have h3 : g3 = wV m c := by rw [hg3]; unfold Dat.before; rw [if_pos (fetch0_3 t0_0)]; rfl
  subst h0; subst h1; subst h2; subst h3
  unfold Dat.owesAt Pipeline.owesWithin
  icases Ho with ⟨%W, %hW, HO⟩
  ihave Hs := (send_split c f1) $$ Hsb
  icases Hs with ⟨Hs0, Hs⟩
  ihave Hr := (recv_split c f2) $$ Hrb
  icases Hr with ⟨Hr0, Hr⟩
  ihave Hb := (bundles (F := F) c) $$ [Htok Hs Hr]
  · isplitl [Htok]; · iexact Htok
    isplitl [Hs]; · iexact Hs
    iexact Hr
  icases Hb with ⟨HS, HC⟩
  ihave HV : (bigSep Finset.univ fun r : Fin 7 => rvB (F := F) c r) $$ [HcV HaV]
  · unfold rvB; rw [bigSep_sep']
    isplitl [HcV]; · iexact HcV
    iexact HaV
  iapply (body_run m c)
  isplitl [HcB HaB HO HS HC HV HaS Hx Hg Hi Hw Hout Hk]
  · unfold bodyIn
    isplitr; · iexact HR
    isplitr; · iexact Hlev
    isplitl [HcB]; · iexact HcB
    isplitl [HaB]; · iexact HaB
    isplitl [HO]; · unfold debt; iexists W; iexact HO
    isplitl [HS]; · iexact HS
    isplitl [HC]; · iexact HC
    isplitl [HV]; · iexact HV
    isplitl [HaS]; · iexact HaS
    isplitl [Hx]; · iexact Hx
    isplitl [Hg]; · iexact Hg
    isplitl [Hi]; · iexact Hi
    isplitl [Hw]; · iexact Hw
    isplitl [Hout]; · iexists _; iexact Hout
    iexists _; iexact Hk
  unfold bodyOut debt bodyPost Φ₁ scratch
  rw [bigSep_sep', bigSep_sep']
  iintro ⟨⟨%W', HO⟩, HzB, ⟨HzS, Hs⟩, ⟨HzV, Hr⟩, Hx, Hg, Hi, Hw, Hout, Hk⟩
  isplitl [HzB HzS HzV Hs Hs0 Hr Hr0 Hk Hsp]
  · isplitl [Hk Hs Hs0 Hr Hr0]
    · isplitl [Hk]; · iexists _; iexact Hk
      isplitl [Hs Hs0]
      · iapply (send_join c f1)
        isplitl [Hs0]; · iexact Hs0
        iexact Hs
      iapply (recv_join m c f2)
      isplitl [Hr0]; · iexact Hr0
      iexact Hr
    isplitl [HzB]; · iexact HzB
    isplitl [HzS]; · iexact HzS
    isplitl [HzV]; · iexact HzV
    iexact Hsp
  isplitl [HO]
  · unfold Dat.owesAt Pipeline.owesWithin
    iexists W'
    isplitr; · ipureintro; exact fun _ _ => Or.inl trivial
    iexact HO
  isplitl [Hx]; · iexists _; isplitr; · (ipureintro; rfl)
                  iexact Hx
  isplitl [Hg]; · iexists _; isplitr; · (ipureintro; rfl)
                  iexact Hg
  isplitl [Hi]; · iexists _; isplitr; · (ipureintro; rfl)
                  iexact Hi
  isplitl [Hw]; · iexists _; isplitr; · (ipureintro; rfl)
                  iexact Hw
  iexists _; isplitr; · (ipureintro; rfl)
  iexact Hout

theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole_eq]
  exact body_sound m c

end Cert.Exchange
-- ==== Proof.Run.lean ====
/-
The launch of the exchange on all devices: cells, tokens and credits dealt out, and the run of the whole program.
-/
module

public import proofs.«01_k».proof.Proof.Body
public import Idealize.ShloMosaic.Lib.Pipeline.CollectiveSegs

@[expose] public section

set_option maxRecDepth 16384

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens at launch -/

/-- The kernel's own semaphores: the send array, then the receive array. -/
abbrev osem : Fin 16 → SemLoc sig :=
  ![.dma sp0, .dma (sS 0), .dma (sS 1), .dma (sS 2), .dma (sS 3), .dma (sS 4), .dma (sS 5), .dma (sS 6),
    .dma sp1, .dma (rS 0), .dma (rS 1), .dma (rS 2), .dma (rS 3), .dma (rS 4), .dma (rS 5), .dma (rS 6)]

theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨kcell, kcell_injective⟩

/-- Which cell a minted token is of, and its duty. -/
abbrev TI : Type := Fin 7 ⊕ (Fin 7 ⊕ Fin 7)
def tokCell : TI → CI × Fin 7
  | .inl r => (CI.bar, r)
  | .inr (.inl r) => (CI.send r, 0)
  | .inr (.inr r) => (CI.recv r, 0)
theorem tokCell_injective : Function.Injective tokCell := by decide
def tokOf (cj : Dev nD × TI) : GSem nD τ sig × ℕ × Fin 7 := (kcell (cj.1, (tokCell cj.2).1), 0, (tokCell cj.2).2)
theorem tokOf_injective : Function.Injective tokOf := by
  rintro ⟨c, j⟩ ⟨c', j'⟩ h
  have h1 := kcell_injective (congrArg (fun x : GSem nD τ sig × ℕ × Fin 7 => x.1) h)
  have h2 : (tokCell j).2 = (tokCell j').2 := congrArg (fun x : GSem nD τ sig × ℕ × Fin 7 => x.2.2) h
  injection h1 with h3 h4
  exact Prod.ext h3 (tokCell_injective (Prod.ext h4 h2))
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The duty tokens of device `c`'s own cells. -/
def toks (c : Dev nD) : sProp 𝕄 :=
  iprop((bigSep Finset.univ fun r : Fin 7 => dutyTok ER (barCell c) 0 r) ∗ (bigSep Finset.univ fun r : Fin 7 => dutyTok ER (sendCell c r) 0 0)
    ∗ bigSep Finset.univ fun r : Fin 7 => dutyTok ER (recvCell c r) 0 0)

/-- What the launch deals device `c`. -/
def G (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal ((c : Thread nD τ), .dma sp0) 0
      ∗ semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0
      ∗ semVal ((c : Thread nD τ), .dma sp1) 0
      ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0) := by
  rw [Pipeline.ownSems0_eq_of_list c osem [0, 1, 2, 3, 4, 5, 6, 7, 8, 9, 10, 11, 12, 13, 14, 15] (by decide) (by decide)]; rfl

omit [FloatOps F] in
theorem ownSems0_iff (c : Dev nD) : (Pipeline.ownSems0 (Ix := Unit) (Name := ℕ) (U := UU) (Lvl := ℕ) (Val := Elt F) (τ := τ) osem c : sProp 𝕄)
    ⊣⊢ iprop((bigSep Finset.univ fun r : Fin 7 => semVal (sendCell c r) 0) ∗ (bigSep Finset.univ fun r : Fin 7 => semVal (recvCell c r) 0) ∗ spare c) := by
  rw [ownSems0_eq]
  unfold spare
  simp only [bigSep_fin7]
  constructor
  · iintro ⟨H0, H1, H2, H3, H4, H5, H6, H7, H8, H9, H10, H11, H12, H13, H14, H15⟩
    isplitl [H1 H2 H3 H4 H5 H6 H7]
    · isplitl [H1]; · iexact H1
      isplitl [H2]; · iexact H2
      isplitl [H3]; · iexact H3
      isplitl [H4]; · iexact H4
      isplitl [H5]; · iexact H5
      isplitl [H6]; · iexact H6
      iexact H7
    isplitl [H9 H10 H11 H12 H13 H14 H15]
    · isplitl [H9]; · iexact H9
      isplitl [H10]; · iexact H10
      isplitl [H11]; · iexact H11
      isplitl [H12]; · iexact H12
      isplitl [H13]; · iexact H13
      isplitl [H14]; · iexact H14
      iexact H15
    isplitl [H0] <;> iassumption
  · iintro ⟨⟨H1, H2, H3, H4, H5, H6, H7⟩, ⟨H9, H10, H11, H12, H13, H14, H15⟩, H0, H8⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Every semaphore of a device at zero: its cells' and the two spare ones. -/
theorem sems0 (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ spare c) : sProp 𝕄) := by
  have h : (bigSep Finset.univ fun k : CI => (semVal (kcell (c, k)) 0 : sProp 𝕄)) = iprop(semVal (barCell c) 0 ∗ (bigSep Finset.univ fun r : Fin 7 => semVal (sendCell c r) 0)
        ∗ (bigSep Finset.univ fun r : Fin 7 => semVal (recvCell c r) 0)) := by
    rw [bigSep_univ_sum, bigSep_univ_sum, bigSep_univ_eq_bigSepL [()] (by decide) (by decide)]; rfl
  rw [h, unscopedSems0_eq]
  iintro ⟨Ho, HB⟩
  ihave Ho := (ownSems0_iff (F := F) c).1 $$ Ho
  icases Ho with ⟨HS, HV, Hsp⟩
  isplitl [HB HS HV]
  · isplitl [HB]; · iexact HB
    isplitl [HS] <;> iassumption
  iexact Hsp

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => known m (kcell (c, k)))
          ∗ (bigSep Finset.univ fun k : CI => atPos ER (kcell (c, k)) 0 ∅ 0) ∗ toks c ∗ spare c) := by
  unfold G known
  rw [bigSep_sep', bigSep_sep']
  iintro ⟨Hos, Hus, Hst, ⟨Hat, Hr⟩, Htok⟩
  ihave Hv := (sems0 (F := F) c) $$ [Hos Hus]
  · isplitl [Hos] <;> iassumption
  icases Hv with ⟨Hv, Hsp⟩
  imod (show iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv Hr]
  · isplitl [Hinv] <;> iassumption
  isplitl [Hat]; · iexact Hat
  isplitl [Htok]; · iexact Htok
  iexact Hsp

omit [FloatOps F] in
/-- Something of every device and every offset, dealt `r + 1` places back. -/
theorem deal (Φ : Dev nD → Fin 7 → sProp 𝕄) :
    (bigSep Finset.univ fun c : Dev nD => bigSep Finset.univ fun r : Fin 7 => Φ c r)
      = bigSep Finset.univ fun c : Dev nD => bigSep Finset.univ fun r : Fin 7 => Φ (fwd c r) r := by
  rw [bigSep_univ_comm Φ, bigSep_univ_comm (fun c r => Φ (fwd c r) r)]
  exact bigSep_congr fun r _ => bigSep_univ_equiv (fwdEquiv r) (fun c => Φ c r)

omit [FloatOps F] in
/-- The tokens dealt to the devices that pay with them. -/
theorem toks_dealt : (bigSep Finset.univ fun c : Dev nD => (toks c : sProp 𝕄)) ⊢ bigSep Finset.univ fun c : Dev nD => bigSep Finset.univ fun r : Fin 7 => payT (F := F) c r := by
  have h : ∀ c : Dev nD, (bigSep Finset.univ fun r : Fin 7 => payT (F := F) c r)
      = iprop((bigSep Finset.univ fun r : Fin 7 => dutyTok ER (barCell (fwd c r)) 0 r) ∗ (bigSep Finset.univ fun r : Fin 7 => dutyTok ER (recvCell (fwd c r) r) 0 0)
        ∗ bigSep Finset.univ fun r : Fin 7 => dutyTok ER (sendCell c r) 0 0) := fun c => by
    unfold payT; rw [bigSep_sep', bigSep_sep']
  rw [bigSep_congr (s := Finset.univ) (fun c _ => h c)]
  unfold toks
  rw [bigSep_sep', bigSep_sep', bigSep_sep', bigSep_sep', deal (fun c r => dutyTok ER (barCell c) 0 r), deal (fun c r => dutyTok ER (recvCell c r) 0 0)]
  iintro ⟨H1, H2, H3⟩
  isplitl [H1]; · iexact H1
  isplitl [H3] <;> iassumption

theorem regroup :
    (bigSep Finset.univ fun c : Dev nD => iprop((bigSep Finset.univ fun k : CI => known m (kcell (c, k)))
          ∗ (bigSep Finset.univ fun k : CI => atPos ER (kcell (c, k)) 0 ∅ 0) ∗ toks c ∗ spare c) : sProp 𝕄)
      ⊢ bigSep Finset.univ (ghost m) := by
  rw [bigSep_sep', bigSep_sep', bigSep_sep', ← bigSep_univ_prod (fun ck : Dev nD × CI => known m (kcell ck))]
  iintro ⟨#HR, Hat, Htok, Hsp⟩
  ihave Htk := (toks_dealt (F := F)) $$ Htok
  iapply (bigSep_with_persistent (R := records m)
    (Φ := fun c => iprop((bigSep Finset.univ fun k : CI => atPos ER (kcell (c, k)) 0 ∅ 0) ∗ (bigSep Finset.univ fun r => payT (F := F) c r) ∗ spare c))
    (fun c _ => Entails.of_eq rfl))
  isplitr; · unfold records; iexact HR
  rw [bigSep_sep', bigSep_sep']
  isplitl [Hat]; · iexact Hat
  isplitl [Htk]; · iexact Htk
  iexact Hsp

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

theorem bar_ne_recv (c d : Dev nD) (r : Fin 7) : barCell c ≠ recvCell d r := fun h => by
  have := kcell_injective (a₁ := (c, CI.bar)) (a₂ := (d, CI.recv r)) h
  cases this

theorem owed_sum (d : Dev nD) (g : GSem nD τ sig) :
    O₀ d g () = (∑ r : Fin 7, if g = recvCell (fwd d r) r then N else 0) + ∑ r : Fin 7, if g = barCell (fwd d r) then 1 else 0 := by
  unfold O₀ owedFrom oRecv oBar
  rw [Pi.add_apply, Finsupp.add_apply, Finset.sum_apply, Finset.sum_apply, Finsupp.finset_sum_apply, Finsupp.finset_sum_apply]
  simp only [tallyAt_apply, Nat.zero_le, Finset.filter_true, and_true]

theorem owed_bar (d c : Dev nD) : O₀ d (barCell c) () = ∑ r : Fin 7, if c = fwd d r then 1 else 0 := by
  rw [owed_sum, Finset.sum_eq_zero fun r _ => if_neg (bar_ne_recv c _ r), Nat.zero_add]
  refine Finset.sum_congr rfl fun r _ => ?_
  by_cases h : c = fwd d r
  · rw [if_pos h, h, if_pos rfl]
  · have hn : barCell c ≠ barCell (fwd d r) := fun h' => h (congrArg Prod.fst (kcell_injective (a₁ := (c, CI.bar)) (a₂ := (fwd d r, CI.bar)) h'))
    rw [if_neg h, if_neg hn]

theorem owed_recv (d c : Dev nD) (r : Fin 7) : O₀ d (recvCell c r) () = if d = fwd c r.rev then N else 0 := by
  have h2 : ∀ q ∈ (Finset.univ : Finset (Fin 7)), (if recvCell c r = barCell (fwd d q) then 1 else 0) = 0 := fun q _ => if_neg fun h => bar_ne_recv _ c r h.symm
  have h1 : ∀ q ∈ (Finset.univ : Finset (Fin 7)), q ≠ r → (if recvCell c r = recvCell (fwd d q) q then N else 0) = 0 := fun q _ hq => if_neg fun h => hq (by
    have := congrArg Prod.snd (kcell_injective (a₁ := (c, CI.recv r)) (a₂ := (fwd d q, CI.recv q)) h)
    injection this with this; injection this with this; exact this.symm)
  rw [owed_sum, Finset.sum_eq_zero h2, Nat.add_zero, Finset.sum_eq_single r h1 (fun h => absurd (Finset.mem_univ r) h)]
  by_cases h : d = fwd c r.rev
  · rw [if_pos h, h, fwd_rev_fwd, if_pos rfl]
  · rw [if_neg h, if_neg fun h' => h ?_]
    have := congrArg Prod.fst (kcell_injective (a₁ := (c, CI.recv r)) (a₂ := (fwd d r, CI.recv r)) h')
    rw [show c = fwd d r from this, fwd_fwd_rev]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (r : Fin 7) :
    tallyOn (recvCell c r) (launchCredit (Pipeline.owing O₀) 0 (recvCell c r)) = (tallyAt (recvCell c r) () N : CellTallies nD τ sig Unit) := by
  unfold tallyAt; refine congrArg _ (Finsupp.ext fun u => ?_); cases u
  rw [Pipeline.launchCredit_owing, Finsupp.single_eq_same, Finset.sum_congr rfl fun d _ => owed_recv d c r, Finset.sum_ite_eq' Finset.univ (fwd c r.rev) fun _ => N,
    if_pos (Finset.mem_univ _)]

def recvSems : Finset (SemLoc sig) := Finset.univ.map ⟨fun r : Fin 7 => csem (CI.recv r), fun a b h => by
  have := csem_injective h; injection this with this; injection this⟩

omit [FloatOps F] in
theorem creds (c : Dev nD) :
    (Pipeline.launchCred O₀ c : sProp 𝕄) ⊢ iprop(cred (tallyAt (barCell c) () 7) ∗ bigSep Finset.univ fun r : Fin 7 => cred (tallyAt (recvCell c r) () N)) := by
  unfold Pipeline.launchCred
  rw [bigSep_univ_at _ (SemLoc.reg barS), launch_bar]
  refine sep_mono_right ?_
  refine (bigSep_subset (t := recvSems) (by decide)).trans ?_
  unfold recvSems
  rw [bigSep_map]
  exact bigSep_mono fun r _ => Entails.of_eq (congrArg (fun t : CellTallies nD τ sig Unit => (cred t : sProp 𝕄)) (launch_recv c r))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁ scratch
  iintro ⟨Hr, HzB, HzS, HzV, Hsp⟩
  isplitl [HzB]; · iexact HzB
  isplitl [HzS HzV Hsp]
  · iapply (ownSems0_iff (F := F) c).2
    isplitl [HzS]; · iexact HzS
    isplitl [HzV] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A window's array on device `c` after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- From any memory with zero counters, every fair execution of the program on the eight devices ends; each window's
    array then holds what the body leaves, and every semaphore is at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Frames.lean ====
/-
The frames of the three programs, and what the kernel's result array holds after its run.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Exchange

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]

/-- An input array after the run is what it was before it. -/
theorem finalA_in (m : (ℓ : Loc nD τ sig) → Buf (Elt F) ℓ) (c : Dev nD) (w : Fin cfg0.W) (h : (cfg0.win w).isOut = false) :
    finalA m c w = m ((cfg0.win w).arr.view.loc (c : Thread nD τ)) :=
  (dats m 0 c).arrAt_in w h _

/-- The result array's one block, read back after the run, is the sum the body stored. -/
theorem finalA_out_read (m : (ℓ : Loc nD τ sig) → Buf (Elt F) ℓ) (c : Dev nD) :
    ((cfg0.win (4 : Fin 5)).blk t0_0).view.read (Elt F) (finalA m c (4 : Fin 5)) = outV m c := by
  unfold finalA
  rw [show cfg0.N = (t0_0 : Fin cfg0.N).val + 1 from rfl, (dats m 0 c).arrAt_succ (4 : Fin 5) t0_0]
  rw [show (cfg0.win (4 : Fin 5)).flush t0_0 = true from by decide, if_pos rfl]
  exact View.read_write_univ _ _

/-- The result array's one block is the whole array. -/
theorem finalA_out (m : (ℓ : Loc nD τ sig) → Buf (Elt F) ℓ) (c : Dev nD) : finalA m c (4 : Fin 5) = outV m c := by
  have hz : (fun a => (win0_4.index t0_0) a * main_v1.ty.shape.size a) = fun _ => 0 :=
    funext fun a => by fin_cases a <;> decide
  have hr := fun f => Memref.read_access_unit_zero (Elt F) main_v1 hz (fun a => by fin_cases a <;> decide) f
  exact (hr _).symm.trans (finalA_out_read m c)

/-- What a device stages of `x` is its whole array. -/
theorem xV_eq (m : (ℓ : Loc nD τ sig) → Buf (Elt F) ℓ) (c : Dev nD) : xV m c = m ((c : Thread nD τ).loc main_arg0) := by
  have hz : (fun a => (win0_0.index t0_0) a * main_arg0.ty.shape.size a) = fun _ => 0 :=
    funext fun a => by fin_cases a <;> decide
  exact Memref.read_access_unit_zero (Elt F) main_arg0 hz (fun a => by fin_cases a <;> decide) _

/-- What a device stages of the router's weights is its whole array. -/
theorem gV_eq (m : (ℓ : Loc nD τ sig) → Buf (Elt F) ℓ) (c : Dev nD) : gV m c = m ((c : Thread nD τ).loc main_arg1) := by
  have hz : (fun a => (win0_1.index t0_0) a * main_arg1.ty.shape.size a) = fun _ => 0 :=
    funext fun a => by fin_cases a <;> decide
  exact Memref.read_access_unit_zero (Elt F) main_arg1 hz (fun a => by fin_cases a <;> decide) _

/-- What a device stages of the experts' indices is its whole array. -/
theorem iV_eq (m : (ℓ : Loc nD τ sig) → Buf (Elt F) ℓ) (c : Dev nD) : iV m c = m ((c : Thread nD τ).loc main_arg2) := by
  have hz : (fun a => (win0_2.index t0_0) a * main_arg2.ty.shape.size a) = fun _ => 0 :=
    funext fun a => by fin_cases a <;> decide
  exact Memref.read_access_unit_zero (Elt F) main_arg2 hz (fun a => by fin_cases a <;> decide) _

/-- What a device stages of its experts is its whole array. -/
theorem wV_eq (m : (ℓ : Loc nD τ sig) → Buf (Elt F) ℓ) (c : Dev nD) : wV m c = m ((c : Thread nD τ).loc main_arg3) := by
  have hz : (fun a => (win0_3.index t0_0) a * main_arg3.ty.shape.size a) = fun _ => 0 :=
    funext fun a => by fin_cases a <;> decide
  exact Memref.read_access_unit_zero (Elt F) main_arg3 hz (fun a => by fin_cases a <;> decide) _

/-- The run of the kernel read at its arrays: the result holds the stored sum, the arguments what they held, and every
    counter is zero again. -/
theorem run_arrays (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (4 : Fin 5)).trans (finalA_out m c),
    (h.1 c (0 : Fin 5)).trans (finalA_in m c (0 : Fin 5) rfl), (h.1 c (1 : Fin 5)).trans (finalA_in m c (1 : Fin 5) rfl),
    (h.1 c (2 : Fin 5)).trans (finalA_in m c (2 : Fin 5) rfl), (h.1 c (3 : Fin 5)).trans (finalA_in m c (3 : Fin 5) rfl)⟩, h.2⟩)
    (run_main m ρ)

/-- The frame at any floats: the kernel terminates without a fault, its arguments end unchanged, every counter at zero. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_arrays m ρ)

/-- The frame of the idealized kernel. -/
theorem frame_ideal : Cert.quiescent_KernelIdeal := fun m ρ _ => frame_any (F := Ideal) m ρ

/-- The two programs' kernels are the same body. -/
theorem defs₀_eq : Cert.Kernel.defs₀ (F := Bits) = Cert.KernelIdeal.defs₀ (F := Bits) := by
  unfold Cert.Kernel.defs₀ Cert.KernelIdeal.defs₀
  refine congrArg Defs.onTc ?_
  funext l a
  fin_cases l
  rfl

/-- The two programs' tables of bodies are the same. -/
theorem defs_eq : Cert.Kernel.defs (F := Bits) = Cert.KernelIdeal.defs (F := Bits) :=
  congrArg (Pipeline.defs (Cert.KernelIdeal.pcfgs (F := Bits))) defs₀_eq

/-- The frame of the kernel at its own floats; its text is the idealized kernel's. -/
theorem frame_kernel : Cert.quiescent_Kernel := by
  intro m ρ _
  have h := frame_any (F := Bits) m ρ
  rw [← defs_eq] at h
  exact h

/-- The frame of the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Mixture.lean ====
/- The mathematics of the top-two mixture at one token, with no program in sight. The scores of the thirty-two experts
   are real numbers; `mass` is the exponential of a score less the row's maximum. The kernel divides the two chosen
   masses by their sum; the reference first divides every mass by the sum of all of them. `mixture` says that the two
   ways give the same weighted sum of expert outputs, whatever the two index words are. -/
module

public import Idealize.ShloMosaic.PureOps.Ideal
public import Idealize.ShloMosaic.Lib.IdealHost

@[expose] public section

noncomputable section

namespace Cert.Mixture

open Idealize.ShloMosaic

/-- The maximum of a row of scores, over a start of minus infinity. -/
def top (s : Fin 32 → EReal) : EReal := Finset.univ.fold max ⊥ s

/-- The exponential of expert `e`'s score less the row's maximum. -/
def mass (s : Fin 32 → EReal) (e : Fin 32) : EReal := Ideal.exp (s e - top s)

/-- The entry of `f` that the index word `b` names, and zero where it names none. -/
def pick (f : Fin 32 → EReal) (b : BitVec 32) : EReal := if h : b.toNat < 32 then f ⟨b.toNat, h⟩ else 0

/-- Two-way softmax of the picked masses: the share of the word `b` among the words `b₀` and `b₁`. -/
def share (p : Fin 32 → EReal) (b₀ b₁ b : BitVec 32) : EReal := Ideal.div (pick p b) (pick p b₀ + pick p b₁)

/-- One where the word `b` is the word of expert `e`, else zero. -/
def hit (b : BitVec 32) (e : Fin 32) : EReal := if b = BitVec.ofNat 32 e.val then 1 else 0

/-- Expert `e`'s coefficient at a token whose two index words are `b₀` and `b₁`. -/
def coef (p : Fin 32 → EReal) (b₀ b₁ : BitVec 32) (e : Fin 32) : EReal :=
  share p b₀ b₁ b₀ * hit b₀ e + share p b₀ b₁ b₁ * hit b₁ e

/-- The pattern a row's maximum starts from is minus infinity. -/
theorem ofBits_neg_inf : Ideal.ofBits FTy.f32 0xFF800000#32 = (⊥ : EReal) := by
  simp [Ideal.ofBits, Ideal.ieee]

/-- A word is the word of expert `e` exactly when it reads `e` as a natural number. -/
theorem eq_ofNat_iff (b : BitVec 32) (e : Fin 32) : b = BitVec.ofNat 32 e.val ↔ b.toNat = e.val := by
  constructor
  · rintro rfl
    rw [BitVec.toNat_ofNat]
    exact Nat.mod_eq_of_lt (by have := e.isLt; omega)
  · intro h
    apply BitVec.eq_of_toNat_eq
    rw [BitVec.toNat_ofNat, h]
    exact (Nat.mod_eq_of_lt (by have := e.isLt; omega)).symm

/-- Summing over the experts the entries that the word selects is picking the word's entry. -/
theorem sum_select (f : Fin 32 → EReal) (b : BitVec 32) :
    (∑ e : Fin 32, if b = BitVec.ofNat 32 e.val then f e else 0) = pick f b := by
  simp only [eq_ofNat_iff]
  unfold pick
  split
  · rename_i h
    rw [Finset.sum_eq_single ⟨b.toNat, h⟩]
    · simp
    · intro e _ he
      rw [if_neg]
      intro h'
      exact he (Fin.ext h'.symm)
    · simp
  · rename_i h
    refine Finset.sum_eq_zero fun e _ => if_neg fun h' => h ?_
    have := e.isLt
    omega

/-- A row's maximum of finite scores is finite. -/
theorem top_real (r : Fin 32 → ℝ) : ∃ t : ℝ, top (fun e => (r e : EReal)) = t := by
  have hlt : top (fun e => (r e : EReal)) < ⊤ := by
    unfold top
    rw [Finset.fold_max_lt]
    exact ⟨bot_lt_top, fun e _ => EReal.coe_lt_top _⟩
  have hgt : ⊥ < top (fun e => (r e : EReal)) := by
    unfold top
    rw [Finset.lt_fold_max]
    exact Or.inr ⟨0, Finset.mem_univ _, EReal.bot_lt_coe _⟩
  exact ⟨_, (EReal.coe_toReal hlt.ne hgt.ne').symm⟩

/-- The masses of a row of finite scores are positive reals. -/
theorem mass_real (s : Fin 32 → EReal) (hs : ∀ e, ∃ r : ℝ, s e = r) :
    ∃ q : Fin 32 → ℝ, (∀ e, 0 < q e) ∧ mass s = fun e => (q e : EReal) := by
  choose r hr using hs
  obtain rfl : s = fun e => (r e : EReal) := funext hr
  obtain ⟨t, ht⟩ := top_real r
  refine ⟨fun e => Real.exp (r e - t), fun e => Real.exp_pos _, funext fun e => ?_⟩
  unfold mass
  rw [ht, ← EReal.coe_sub, Ideal.exp_coe]

/-- Picking from a row of reals. -/
def pickR (q : Fin 32 → ℝ) (b : BitVec 32) : ℝ := if h : b.toNat < 32 then q ⟨b.toNat, h⟩ else 0

theorem pick_real (q : Fin 32 → ℝ) (b : BitVec 32) : pick (fun e => (q e : EReal)) b = (pickR q b : EReal) := by
  unfold pick pickR
  split <;> simp

/-- Dividing every entry by a real that is not zero divides the picked entry. -/
theorem pick_div (q : Fin 32 → ℝ) {z : ℝ} (hz : z ≠ 0) (b : BitVec 32) :
    pick (fun e => Ideal.div (q e : EReal) (z : EReal)) b = ((pickR q b / z : ℝ) : EReal) := by
  unfold pick pickR
  split
  · show Ideal.div (q _ : EReal) (z : EReal) = _
    rw [Ideal.div_coe hz, ← EReal.coe_mul]
    congr 1
    ring
  · simp

/-- A finite sum of reals is the same sum of extended reals. -/
theorem coe_sum {ι : Type} (S : Finset ι) (r : ι → ℝ) : ((∑ i ∈ S, r i : ℝ) : EReal) = ∑ i ∈ S, (r i : EReal) := by
  induction S using Finset.cons_induction with
  | empty => simp
  | cons a S ha ih => rw [Finset.sum_cons, Finset.sum_cons, EReal.coe_add, ih]

/-- A finite sum of products of finite numbers is finite. -/
theorem dot_real {n : ℕ} (x g : Fin n → EReal) (hx : ∀ k, ∃ r : ℝ, x k = r) (hg : ∀ k, ∃ r : ℝ, g k = r) :
    ∃ r : ℝ, (∑ k, x k * g k) = r := by
  choose a ha using hx
  choose b hb using hg
  refine ⟨∑ k, a k * b k, ?_⟩
  rw [coe_sum]
  exact Finset.sum_congr rfl fun k _ => by rw [ha, hb, EReal.coe_mul]

/-- A nonnegative real factor moves into a finite sum of extended reals. -/
theorem mul_sum_nonneg {ι : Type} (S : Finset ι) {w : ℝ} (hw : 0 ≤ w) (f : ι → EReal) :
    (w : EReal) * ∑ i ∈ S, f i = ∑ i ∈ S, (w : EReal) * f i := by
  induction S using Finset.cons_induction with
  | empty => simp
  | cons a S ha ih =>
    rw [Finset.sum_cons, Finset.sum_cons, EReal.left_distrib_of_nonneg_of_ne_top (EReal.coe_nonneg.mpr hw) (EReal.coe_ne_top _), ih]

/-- Picking the terms of a sum of products: the expert's output, or zero. -/
theorem pick_sum (x : Fin 256 → EReal) (W : Fin 32 → Fin 256 → EReal) (b : BitVec 32) :
    pick (fun e => ∑ d, x d * W e d) b = ∑ d, x d * pick (fun e => W e d) b := by
  unfold pick
  split
  · rfl
  · simp

/-- One slot of the kernel's sum: the weighted outputs of the experts that the word hits. -/
theorem slot_sum (x : Fin 256 → EReal) (W : Fin 32 → Fin 256 → EReal) (b : BitVec 32) {w : ℝ} (hw : 0 ≤ w) :
    (∑ e : Fin 32, ∑ d : Fin 256, ((w : EReal) * hit b e) * (x d * W e d))
      = (w : EReal) * ∑ d, x d * pick (fun e => W e d) b := by
  rw [← pick_sum, ← sum_select, mul_sum_nonneg _ hw]
  refine Finset.sum_congr rfl fun e _ => ?_
  unfold hit
  by_cases h : b = BitVec.ofNat 32 e.val
  · simp only [if_pos h, mul_one]
    exact (mul_sum_nonneg _ hw _).symm
  · simp only [if_neg h, mul_zero, zero_mul, Finset.sum_const_zero]

theorem hit_nonneg (b : BitVec 32) (e : Fin 32) : 0 ≤ hit b e := by
  unfold hit
  split <;> simp

/-- With two nonnegative real weights, the sum over the experts of the scaled rows against their matrices is the
    weighted sum of the two picked experts' outputs. -/
theorem weighted (x : Fin 256 → EReal) (W : Fin 32 → Fin 256 → EReal) (b₀ b₁ : BitVec 32) {w₀ w₁ : ℝ}
    (h₀ : 0 ≤ w₀) (h₁ : 0 ≤ w₁) :
    (∑ e : Fin 32, ∑ d : Fin 256, (x d * ((w₀ : EReal) * hit b₀ e + (w₁ : EReal) * hit b₁ e)) * W e d)
      = (w₀ : EReal) * (∑ d, x d * pick (fun e => W e d) b₀) + (w₁ : EReal) * ∑ d, x d * pick (fun e => W e d) b₁ := by
  rw [← slot_sum x W b₀ h₀, ← slot_sum x W b₁ h₁, ← Finset.sum_add_distrib]
  refine Finset.sum_congr rfl fun e _ => ?_
  rw [← Finset.sum_add_distrib]
  refine Finset.sum_congr rfl fun d _ => ?_
  rw [← EReal.right_distrib_of_nonneg (mul_nonneg (EReal.coe_nonneg.mpr h₀) (hit_nonneg _ _))
    (mul_nonneg (EReal.coe_nonneg.mpr h₁) (hit_nonneg _ _)), mul_comm (x d), mul_assoc]

theorem pickR_nonneg {q : Fin 32 → ℝ} (hq : ∀ e, 0 < q e) (b : BitVec 32) : 0 ≤ pickR q b := by
  unfold pickR
  split
  · exact (hq _).le
  · exact le_rfl

theorem pickR_eq_zero {q : Fin 32 → ℝ} (hq : ∀ e, 0 < q e) {b : BitVec 32} (h : pickR q b = 0) : ¬ b.toNat < 32 := by
  intro hb
  unfold pickR at h
  rw [dif_pos hb] at h
  exact (hq _).ne' h

/-- The kernel's mixture at one token and output column equals the reference's, for finite scores, any index words, any
    token row and any expert matrices. -/
theorem mixture (s : Fin 32 → EReal) (hs : ∀ e, ∃ r : ℝ, s e = r) (x : Fin 256 → EReal)
    (W : Fin 32 → Fin 256 → EReal) (b₀ b₁ : BitVec 32) :
    (∑ e : Fin 32, ∑ d : Fin 256, (x d * coef (mass s) b₀ b₁ e) * W e d)
      = share (fun e => Ideal.div (mass s e) (∑ e, mass s e)) b₀ b₁ b₀ * (∑ d, x d * pick (fun e => W e d) b₀)
        + share (fun e => Ideal.div (mass s e) (∑ e, mass s e)) b₀ b₁ b₁ * ∑ d, x d * pick (fun e => W e d) b₁ := by
  obtain ⟨q, hq, hm⟩ := mass_real s hs
  rw [hm]
  have hz : (∑ e : Fin 32, q e) ≠ 0 := (Finset.sum_pos (fun e _ => hq e) Finset.univ_nonempty).ne'
  have hS : (∑ e : Fin 32, (q e : EReal)) = ((∑ e : Fin 32, q e : ℝ) : EReal) := by
    rw [coe_sum]
  have hzp : 0 < ∑ e : Fin 32, q e := Finset.sum_pos (fun e _ => hq e) Finset.univ_nonempty
  by_cases h0 : pickR q b₀ + pickR q b₁ = 0
  · have n₀ := pickR_nonneg hq b₀
    have n₁ := pickR_nonneg hq b₁
    have z₀ := pickR_eq_zero hq (b := b₀) (by linarith)
    have z₁ := pickR_eq_zero hq (b := b₁) (by linarith)
    have k₀ : ∀ e, hit b₀ e = 0 := fun e => if_neg (by rw [eq_ofNat_iff]; have := e.isLt; omega)
    have k₁ : ∀ e, hit b₁ e = 0 := fun e => if_neg (by rw [eq_ofNat_iff]; have := e.isLt; omega)
    simp only [coef, k₀, k₁, pick, dif_neg z₀, dif_neg z₁, mul_zero, zero_mul, add_zero, Finset.sum_const_zero]
  · have hk : ∀ b, share (fun e => (q e : EReal)) b₀ b₁ b
        = ((pickR q b / (pickR q b₀ + pickR q b₁) : ℝ) : EReal) := by
      intro b
      unfold share
      rw [pick_real, pick_real, pick_real, ← EReal.coe_add, Ideal.div_coe h0, ← EReal.coe_mul]
      congr 1
      ring
    have hr : ∀ b, share (fun e => Ideal.div (q e : EReal) (∑ e : Fin 32, (q e : EReal))) b₀ b₁ b
        = ((pickR q b / (pickR q b₀ + pickR q b₁) : ℝ) : EReal) := by
      intro b
      unfold share
      rw [hS]
      have h0' : pickR q b₀ / (∑ e : Fin 32, q e) + pickR q b₁ / (∑ e : Fin 32, q e) ≠ 0 := by
        rw [← add_div]
        exact div_ne_zero h0 hz
      rw [pick_div q hz, pick_div q hz, pick_div q hz, ← EReal.coe_add, Ideal.div_coe h0', ← EReal.coe_mul]
      congr 1
      rw [← add_div]
      field_simp
    have hw : ∀ b, 0 ≤ pickR q b / (pickR q b₀ + pickR q b₁) := fun b =>
      div_nonneg (pickR_nonneg hq b) (add_nonneg (pickR_nonneg hq b₀) (pickR_nonneg hq b₁))
    unfold coef
    rw [hk, hk, hr, hr]
    exact weighted x W b₀ b₁ (hw b₀) (hw b₁)

end Cert.Mixture

end
-- ==== Proof.Coeff.lean ====
/- The coefficients a device computes, read at a token and a local expert, over the extended reals. -/
module

public import proofs.«01_k».proof.Proof.Protocol
public import proofs.«01_k».proof.Proof.Mixture
public import Idealize.ShloMosaic.Lib.Pointwise
public import Idealize.ShloMosaic.PureOps.Ideal

@[expose] public section

set_option maxRecDepth 16384

noncomputable section

namespace Cert.Exchange

open Cert.KernelIdeal Cert.KernelIdeal.Gen
open Idealize.ShloMosaic
open Cert.Mixture

/-- The score of expert `e` at token `t`. -/
def scoreAt (X : FVec Ideal S1024x256 .bf16) (G : FVec Ideal S256x32 .bf16) (t : Fin 1024) (e : Fin 32) : EReal :=
  ∑ k : Fin 256, X (ix2 t k) * G (ix2 k e)

/-- A comparison's bit, widened and converted, is one or zero. -/
theorem flag_eq (a b : BitVec 32) :
    FloatOps.sitofp (F := Ideal) FTy.f32 (BitVec.setWidth 32 (IntOp.cmpi CmpIPredicate.eq a b)) = if a = b then (1 : EReal) else 0 := by
  show (((BitVec.setWidth 32 (IntOp.cmpi CmpIPredicate.eq a b)).toInt : ℝ) : EReal) = _
  by_cases h : a = b
  · subst h
    simp [IntOp.cmpi]
  · have hb : (a == b) = false := beq_eq_false_iff_ne.mpr h
    simp [IntOp.cmpi, hb, h]

/-- The unnormalised probability the kernel computes. -/
theorem pay1_apply (X : FVec Ideal S1024x256 .bf16) (G : FVec Ideal S256x32 .bf16) (t : Fin 1024) (e : Fin 32) :
    k0_pay1 (F := Ideal) X G (ix2 t e) = mass (scoreAt X G t) e := by
  pointwise [k0_pay1]
  rw [ofBits_neg_inf]
  rfl

/-- Selecting by equality of index words, summed over the experts. -/
theorem select_sum (f : Fin 32 → EReal) (b : BitVec 32) :
    (∑ e : Fin 32, Scalar.select (IntOp.cmpi CmpIPredicate.eq (BitVec.ofNat 32 e.val) b) (f e) 0) = pick f b := by
  rw [← sum_select]
  refine Finset.sum_congr rfl fun e _ => ?_
  by_cases h : b = BitVec.ofNat 32 e.val
  · rw [if_pos h, h]
    simp [IntOp.cmpi, Scalar.select]
  · rw [if_neg h]
    have hb : (BitVec.ofNat 32 e.val == b) = false := beq_eq_false_iff_ne.mpr (Ne.symm h)
    simp [IntOp.cmpi, Scalar.select, hb]

/-- The mass of the expert that the first index word names. -/
theorem pay4_apply (X : FVec Ideal S1024x256 .bf16) (G : FVec Ideal S256x32 .bf16) (i : IVec S1024x1 32) (t : Fin 1024) :
    k0_pay4 (F := Ideal) X G i (ix2 t 0) = pick (mass (scoreAt X G t)) (i (ix2 t 0)) := by
  pointwise [k0_pay4, k0_pay2]
  simp only [pay1_apply]
  exact select_sum _ _

/-- The mass of the expert that the second index word names. -/
theorem pay5_apply (X : FVec Ideal S1024x256 .bf16) (G : FVec Ideal S256x32 .bf16) (i : IVec S1024x1 32) (t : Fin 1024) :
    k0_pay5 (F := Ideal) X G i (ix1 t) = pick (mass (scoreAt X G t)) (i (ix2 t 0)) := by
  pointwise [k0_pay5, k0_pay3]
  simp only [pay1_apply]
  exact select_sum _ _

/-- Expert `j` of device `c` among all thirty-two. -/
def expert (c : Dev nD) (j : Fin 4) : Fin 32 := ⟨4 * c.val + j.val, by have h : c.val < 8 := c.isLt; have := j.isLt; omega⟩

/-- The word the program compares an index word with is the word of the device's expert. -/
theorem expert_word (c : Dev nD) :
    Scalar.addi (Scalar.muli (Scalar.remsi (Scalar.divsi (Dev.word c) 1#32) 8#32) 4#32) 0#32 = BitVec.ofNat 32 (expert c 0).val
    ∧ Scalar.addi (Scalar.muli (Scalar.remsi (Scalar.divsi (Dev.word c) 1#32) 8#32) 4#32) 1#32 = BitVec.ofNat 32 (expert c 1).val
    ∧ Scalar.addi (Scalar.muli (Scalar.remsi (Scalar.divsi (Dev.word c) 1#32) 8#32) 4#32) 2#32 = BitVec.ofNat 32 (expert c 2).val
    ∧ Scalar.addi (Scalar.muli (Scalar.remsi (Scalar.divsi (Dev.word c) 1#32) 8#32) 4#32) 3#32 = BitVec.ofNat 32 (expert c 3).val := by
  revert c
  decide

/-- Token `t`'s coefficient for expert `j` of device `c`. -/
theorem coeffOf_apply (c : Dev nD) (X : FVec Ideal S1024x256 .bf16) (G : FVec Ideal S256x32 .bf16) (i0 i1 : IVec S1024x1 32)
    (t : Fin 1024) (j : Fin 4) :
    coeffOf (F := Ideal) c X G i0 i1 (ix2 t j)
      = coef (mass (scoreAt X G t)) (i0 (ix2 t 0)) (i1 (ix2 t 0)) (expert c j) := by
  obtain ⟨e0, e1, e2, e3⟩ := expert_word c
  unfold coeffOf coef share hit
  pointwise [k0_pay15, k0_pay14, k0_pay13, k0_pay12, k0_pay11, k0_pay10, k0_pay9, k0_pay8, k0_pay7, k0_pay6, k0_pay3, k0_pay2]
  fin_vals j with hj
  all_goals simp only [hj, Nat.reduceSub, Nat.reduceLT, ↓reduceDIte]
  all_goals simp only [Fin.zero_eta, pay4_apply, pay5_apply, e0, e1, e2, e3, flag_eq]
  · obtain rfl : j = 0 := Fin.ext hj
    rfl
  · obtain rfl : j = 1 := Fin.ext hj
    rfl
  · obtain rfl : j = 2 := Fin.ext hj
    rfl
  · obtain rfl : j = 3 := Fin.ext hj
    rfl

end Cert.Exchange

end
-- ==== Proof.Partial.lean ====
/- What a device computes of a block of rows, read at a row and a column, over the extended reals. -/
module

public import proofs.«01_k».proof.Proof.Coeff

@[expose] public section

set_option maxRecDepth 16384

noncomputable section

namespace Cert.Exchange

open Cert.KernelIdeal Cert.KernelIdeal.Gen
open Idealize.ShloMosaic
open Cert.Mixture

/-- One expert's part of row `p` and column `n`: the row, scaled by its coefficient, times the expert's matrix. -/
def term (x : Vec Ideal S128x256 .bf16) (k : Vec Ideal S128x4 .f32) (w : Vec Ideal S1x256x512 .bf16) (j : Fin 4)
    (p : Fin 128) (n : Fin 512) : EReal :=
  ∑ d : Fin 256, (x (ix2 p d) * k (ix2 p j)) * w (ix3 0 d n)

/-- A part is known from its row, its coefficient and its column of the matrix. -/
theorem term_of {x : Vec Ideal S128x256 .bf16} {k : Vec Ideal S128x4 .f32} {w : Vec Ideal S1x256x512 .bf16} {j : Fin 4}
    {p : Fin 128} {n : Fin 512} {a : Fin 256 → EReal} {b : EReal} {g : Fin 256 → EReal}
    (hx : ∀ d, x (ix2 p d) = a d) (hk : k (ix2 p j) = b) (hw : ∀ d, w (ix3 0 d n) = g d) :
    term x k w j p n = ∑ d : Fin 256, (a d * b) * g d :=
  Finset.sum_congr rfl fun d _ => congrArg₂ (· * ·) (congrArg₂ (· * ·) (hx d) hk) (hw d)

/-- A message at a row and a column is the sum of the four experts' parts. -/
theorem partialOf_apply (x : Vec Ideal S128x256 .bf16) (k : Vec Ideal S128x4 .f32) (w0 w1 w2 w3 : Vec Ideal S1x256x512 .bf16)
    (p : Fin 128) (n : Fin 512) :
    partialOf (F := Ideal) x k w0 w1 w2 w3 (ix3 0 p n)
      = term x k w0 0 p n + term x k w1 1 p n + term x k w2 2 p n + term x k w3 3 p n := by
  unfold partialOf term
  pointwise [k0_pay22, k0_pay21, k0_pay20]

/-- The own partial result at a row and a column is the sum of the four experts' parts. -/
theorem ownOf_apply (x : Vec Ideal S128x256 .bf16) (k : Vec Ideal S128x4 .f32) (w0 w1 w2 w3 : Vec Ideal S1x256x512 .bf16)
    (p : Fin 128) (n : Fin 512) :
    ownOf (F := Ideal) x k w0 w1 w2 w3 (ix2 p n)
      = term x k w0 0 p n + term x k w1 1 p n + term x k w2 2 p n + term x k w3 3 p n := by
  unfold ownOf term
  pointwise [k0_pay47, k0_pay46, k0_pay45, k0_pay44, k0_pay43]

/-- The last step adds the seven arrived blocks to the own one. -/
theorem sumOf_apply (o : FVec Ideal S128x512 .f32) (l : Fin 7 → Vec Ideal S1x128x512 .bf16) (p : Fin 128) (n : Fin 512) :
    sumOf (F := Ideal) o l (ix2 p n) = o (ix2 p n) + ∑ r : Fin 7, l r (ix3 0 p n) := by
  unfold sumOf
  pointwise [k0_pay50, k0_pay49, k0_pay48]
  rw [Fin.sum_univ_seven]
  simp only [add_assoc]

/-- Row `p` of device `c`'s block of tokens, among all tokens. -/
def tok (c : Dev nD) (p : Fin 128) : Fin 1024 := ⟨128 * c.val + p.val, by have h : c.val < 8 := c.isLt; have := p.isLt; omega⟩

/-- The rows of tokens a message is computed from are those of the device it goes to. -/
theorem read_x (c : Dev nD) (r : Fin 7) (v : Vec Ideal S1024x256 .bf16) (p : Fin 128) (d : Fin 256) :
    xM.view.readAt (Elt Ideal) (xRect c r).toLoadRect v (ix2 p d) = v (ix2 (tok (fwd c r) p) d) := by
  refine congrArg v (funext fun a => Fin.ext ?_)
  show k0_off1 c (BitVec.ofNat 32 (1 + r.val)) a + 1 * (ix2 p d a).val = (ix2 (tok (fwd c r) p) d a).val
  rw [k0_off1_eq]
  match a with
  | 0 => exact congrArg (_ + ·) (Nat.one_mul _)
  | 1 => exact (Nat.zero_add _).trans (Nat.one_mul _)

/-- The coefficients a message is computed from are those of the tokens of the device it goes to. -/
theorem read_c (c : Dev nD) (r : Fin 7) (v : Vec Ideal S1024x4 .f32) (p : Fin 128) (d : Fin 4) :
    cM.view.readAt (Elt Ideal) (cRect c r).toLoadRect v (ix2 p d) = v (ix2 (tok (fwd c r) p) d) := by
  refine congrArg v (funext fun a => Fin.ext ?_)
  show k0_off2 c (BitVec.ofNat 32 (1 + r.val)) a + 1 * (ix2 p d a).val = (ix2 (tok (fwd c r) p) d a).val
  rw [k0_off2_eq]
  match a with
  | 0 => exact congrArg (_ + ·) (Nat.one_mul _)
  | 1 => exact (Nat.zero_add _).trans (Nat.one_mul _)

/-- The rows of tokens of the own partial result. -/
theorem read_xOwn (c : Dev nD) (v : Vec Ideal S1024x256 .bf16) (p : Fin 128) (d : Fin 256) :
    xM.view.readAt (Elt Ideal) (xOwn c).toLoadRect v (ix2 p d) = v (ix2 (tok c p) d) := by
  refine congrArg v (funext fun a => Fin.ext ?_)
  show k0_off3 c a + 1 * (ix2 p d a).val = (ix2 (tok c p) d a).val
  rw [k0_off3_eq]
  match a with
  | 0 => exact congrArg (_ + ·) (Nat.one_mul _)
  | 1 => exact (Nat.zero_add _).trans (Nat.one_mul _)

/-- The coefficients of the own partial result. -/
theorem read_cOwn (c : Dev nD) (v : Vec Ideal S1024x4 .f32) (p : Fin 128) (d : Fin 4) :
    cM.view.readAt (Elt Ideal) (cOwn c).toLoadRect v (ix2 p d) = v (ix2 (tok c p) d) := by
  refine congrArg v (funext fun a => Fin.ext ?_)
  show k0_off4 c a + 1 * (ix2 p d a).val = (ix2 (tok c p) d a).val
  rw [k0_off4_eq]
  match a with
  | 0 => exact congrArg (_ + ·) (Nat.one_mul _)
  | 1 => exact (Nat.zero_add _).trans (Nat.one_mul _)

/-- The matrix of the device's expert 0. -/
theorem read_w0 (v : Vec Ideal S4x256x512 .bf16) (d : Fin 256) (n : Fin 512) :
    wM.view.readAt (Elt Ideal) wRect0.toLoadRect v (ix3 0 d n) = v (ix3 0 d n) := by
  refine congrArg v (funext fun a => Fin.ext ?_)
  match a with
  | 0 => rfl
  | 1 => exact (Nat.zero_add _).trans (Nat.one_mul _)
  | 2 => exact (Nat.zero_add _).trans (Nat.one_mul _)

/-- The matrix of the device's expert 1. -/
theorem read_w1 (v : Vec Ideal S4x256x512 .bf16) (d : Fin 256) (n : Fin 512) :
    wM.view.readAt (Elt Ideal) wRect1.toLoadRect v (ix3 0 d n) = v (ix3 1 d n) := by
  refine congrArg v (funext fun a => Fin.ext ?_)
  match a with
  | 0 => rfl
  | 1 => exact (Nat.zero_add _).trans (Nat.one_mul _)
  | 2 => exact (Nat.zero_add _).trans (Nat.one_mul _)

/-- The matrix of the device's expert 2. -/
theorem read_w2 (v : Vec Ideal S4x256x512 .bf16) (d : Fin 256) (n : Fin 512) :
    wM.view.readAt (Elt Ideal) wRect2.toLoadRect v (ix3 0 d n) = v (ix3 2 d n) := by
  refine congrArg v (funext fun a => Fin.ext ?_)
  match a with
  | 0 => rfl
  | 1 => exact (Nat.zero_add _).trans (Nat.one_mul _)
  | 2 => exact (Nat.zero_add _).trans (Nat.one_mul _)

/-- The matrix of the device's expert 3. -/
theorem read_w3 (v : Vec Ideal S4x256x512 .bf16) (d : Fin 256) (n : Fin 512) :
    wM.view.readAt (Elt Ideal) wRect3.toLoadRect v (ix3 0 d n) = v (ix3 3 d n) := by
  refine congrArg v (funext fun a => Fin.ext ?_)
  match a with
  | 0 => rfl
  | 1 => exact (Nat.zero_add _).trans (Nat.one_mul _)
  | 2 => exact (Nat.zero_add _).trans (Nat.one_mul _)

/-- Column 0 of the index words. -/
theorem read_i0 (v : Vec Ideal S1024x2 .i32) (t : Fin 1024) :
    iM.view.readAt (Elt Ideal) iRect0.toLoadRect v (ix2 t 0) = v (ix2 t 0) := by
  refine congrArg v (funext fun a => Fin.ext ?_)
  match a with
  | 0 => exact (Nat.zero_add _).trans (Nat.one_mul _)
  | 1 => rfl

/-- Column 1 of the index words. -/
theorem read_i1 (v : Vec Ideal S1024x2 .i32) (t : Fin 1024) :
    iM.view.readAt (Elt Ideal) iRect1.toLoadRect v (ix2 t 0) = v (ix2 t 1) := by
  refine congrArg v (funext fun a => Fin.ext ?_)
  match a with
  | 0 => exact (Nat.zero_add _).trans (Nat.one_mul _)
  | 1 => rfl

/-- What device `s` contributes to token `t` and column `n`. -/
def devPart (x : Vec Ideal S1024x256 .bf16) (k : Vec Ideal S1024x4 .f32) (w : Vec Ideal S4x256x512 .bf16) (t : Fin 1024) (n : Fin 512) : EReal :=
  ∑ j : Fin 4, ∑ d : Fin 256, (x (ix2 t d) * k (ix2 t j)) * w (ix3 j d n)

variable (m : (ℓ : Loc nD τ sig) → Buf (Elt Ideal) ℓ)

/-- A message holds the contributions to the tokens of the device it goes to. -/
theorem msg_apply (c : Dev nD) (r : Fin 7) (p : Fin 128) (n : Fin 512) :
    msg m c r (ix3 0 p n) = devPart (xV m c) (kV m c) (wV m c) (tok (fwd c r) p) n := by
  unfold msg devPart
  rw [partialOf_apply, Fin.sum_univ_four]
  exact congrArg₂ (· + ·) (congrArg₂ (· + ·) (congrArg₂ (· + ·)
    (term_of (read_x c r (xV m c) p) (read_c c r (kV m c) p 0) fun d => read_w0 (wV m c) d n)
    (term_of (read_x c r (xV m c) p) (read_c c r (kV m c) p 1) fun d => read_w1 (wV m c) d n))
    (term_of (read_x c r (xV m c) p) (read_c c r (kV m c) p 2) fun d => read_w2 (wV m c) d n))
    (term_of (read_x c r (xV m c) p) (read_c c r (kV m c) p 3) fun d => read_w3 (wV m c) d n)

/-- The own partial result holds the contributions to the own tokens. -/
theorem own_apply (c : Dev nD) (p : Fin 128) (n : Fin 512) :
    own m c (ix2 p n) = devPart (xV m c) (kV m c) (wV m c) (tok c p) n := by
  unfold own devPart
  rw [ownOf_apply, Fin.sum_univ_four]
  exact congrArg₂ (· + ·) (congrArg₂ (· + ·) (congrArg₂ (· + ·)
    (term_of (read_xOwn c (xV m c) p) (read_cOwn c (kV m c) p 0) fun d => read_w0 (wV m c) d n)
    (term_of (read_xOwn c (xV m c) p) (read_cOwn c (kV m c) p 1) fun d => read_w1 (wV m c) d n))
    (term_of (read_xOwn c (xV m c) p) (read_cOwn c (kV m c) p 2) fun d => read_w2 (wV m c) d n))
    (term_of (read_xOwn c (xV m c) p) (read_cOwn c (kV m c) p 3) fun d => read_w3 (wV m c) d n)

/-- The own device and the seven that send to it are all the devices. -/
theorem sum_devices (f : Dev nD → EReal) (c : Dev nD) : f c + ∑ r : Fin 7, f (fwd c r.rev) = ∑ s : Dev nD, f s := by
  have hi : Finset.univ.erase c = Finset.univ.image fun r : Fin 7 => fwd c r.rev := by revert c; decide
  have hinj : ∀ a b : Fin 7, fwd c a.rev = fwd c b.rev → a = b := by revert c; decide
  rw [← Finset.add_sum_erase _ f (Finset.mem_univ c), hi, Finset.sum_image fun a _ b _ h => hinj a b h]

/-- What device `c` writes for its row `p` is the sum of all devices' contributions to that token. -/
theorem outV_apply (c : Dev nD) (p : Fin 128) (n : Fin 512) :
    outV m c (ix2 p n) = ∑ s : Dev nD, devPart (xV m s) (kV m s) (wV m s) (tok c p) n := by
  have h : ∀ r : Fin 7, arrived m c r (ix3 0 p n) = devPart (xV m (fwd c r.rev)) (kV m (fwd c r.rev)) (wV m (fwd c r.rev)) (tok c p) n := by
    intro r
    unfold arrived
    rw [msg_apply, fwd_rev_fwd]
  unfold outV
  refine (sumOf_apply (own m c) (arrived m c) p n).trans ?_
  rw [own_apply, Finset.sum_congr rfl fun r _ => h r]
  exact sum_devices (fun s => devPart (xV m s) (kV m s) (wV m s) (tok c p) n) c

/-- A device's coefficients, read at a token and a local expert. -/
theorem kV_apply (c : Dev nD) (t : Fin 1024) (j : Fin 4) :
    kV m c (ix2 t j) = coef (mass (scoreAt (xV m c) (gV m c) t)) (iV m c (ix2 t 0)) (iV m c (ix2 t 1)) (expert c j) := by
  unfold kV
  refine (coeffOf_apply c _ _ _ _ t j).trans ?_
  rw [read_i0, read_i1]

end Cert.Exchange

end
-- ==== Proof.RefValue.lean ====
/- What the reference computes, read at a token and a column, over the extended reals. -/
module

public import proofs.«01_k».proof.Proof.Mixture
public import proofs.«01_k».proof.Proof.Gen.ReferenceIdeal.Read
public import Idealize.ShloMosaic.Lib.Pointwise
public import Idealize.ShloMosaic.PureOps.Ideal

@[expose] public section

set_option maxRecDepth 16384

noncomputable section

namespace Cert.RefValue

open Cert.ReferenceIdeal Cert.ReferenceIdeal.Read
open Idealize.ShloMosaic
open Cert.Mixture

/-- A start index read signed and clamped among thirty-two rows. -/
def clamp (b : BitVec 32) : Fin 32 := ⟨min b.toInt.toNat 31, by omega⟩

/-- Taking an entry of each row: the result at `(t, s)` is row `t` at the clamped index word `(t, s)`. -/
theorem take_entry (x : FVec Ideal S1024x32 .f32) (idx : IVec S1024x2x1 32) (t : Fin 1024) (s : Fin 2) :
    Host.gather gather_S1024x32_S1024x2x1_S1024x2_n_1_0_0_1_2_11 x idx (ix2 t s) = x (ix2 t (clamp (idx (ix3 t s 0)))) := by
  unfold Host.gather
  refine congrArg x (funext fun a => Fin.ext ?_)
  show gather_S1024x32_S1024x2x1_S1024x2_n_1_0_0_1_2_11.start (ix2 t s) idx a
      + gather_S1024x32_S1024x2x1_S1024x2_n_1_0_0_1_2_11.batchCoord (ix2 t s) a
      + gather_S1024x32_S1024x2x1_S1024x2_n_1_0_0_1_2_11.offCoord (ix2 t s) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S1024x32_S1024x2x1_S1024x2_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S1024x32_S1024x2x1_S1024x2_n_1_0_0_1_2_11.startIndexMap from List.mem_singleton.mpr rfl)]
    have hsi : gather_S1024x32_S1024x2x1_S1024x2_n_1_0_0_1_2_11.siIdx (ix2 t s)
        ⟨List.idxOf (1 : Fin 2) gather_S1024x32_S1024x2x1_S1024x2_n_1_0_0_1_2_11.startIndexMap,
          List.idxOf_lt_length_iff.2 (List.mem_singleton.mpr rfl)⟩ = ix3 t s 0 := by
      funext b
      refine Fin.ext ?_
      match b with
      | ⟨0, _⟩ => rfl
      | ⟨1, _⟩ => rfl
      | ⟨2, _⟩ => rfl
    rw [hsi]
    rfl

/-- Taking a matrix for each token: the result at `(t, d, n)` is the clamped index word's matrix at `(d, n)`. -/
theorem take_matrix (x : FVec Ideal S32x256x512 .f32) (idx : IVec S1024x1 32) (t : Fin 1024) (d : Fin 256) (n : Fin 512) :
    Host.gather gather_S32x256x512_S1024x1_S1024x256x512_12_0_n_n_0_1_1256512 x idx (ix3 t d n)
      = x (ix3 (clamp (idx (ix2 t 0))) d n) := by
  unfold Host.gather
  refine congrArg x (funext fun a => Fin.ext ?_)
  show gather_S32x256x512_S1024x1_S1024x256x512_12_0_n_n_0_1_1256512.start (ix3 t d n) idx a
      + gather_S32x256x512_S1024x1_S1024x256x512_12_0_n_n_0_1_1256512.batchCoord (ix3 t d n) a
      + gather_S32x256x512_S1024x1_S1024x256x512_12_0_n_n_0_1_1256512.offCoord (ix3 t d n) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 3) ∈ gather_S32x256x512_S1024x1_S1024x256x512_12_0_n_n_0_1_1256512.startIndexMap from List.mem_singleton.mpr rfl)]
    have hsi : gather_S32x256x512_S1024x1_S1024x256x512_12_0_n_n_0_1_1256512.siIdx (ix3 t d n)
        ⟨List.idxOf (0 : Fin 3) gather_S32x256x512_S1024x1_S1024x256x512_12_0_n_n_0_1_1256512.startIndexMap,
          List.idxOf_lt_length_iff.2 (List.mem_singleton.mpr rfl)⟩ = ix2 t 0 := by
      funext b
      refine Fin.ext ?_
      match b with
      | ⟨0, _⟩ => rfl
      | ⟨1, _⟩ => rfl
    rw [hsi]
    rfl
  · unfold GatherDims.start
    rw [dif_neg (show ¬ (1 : Fin 3) ∈ gather_S32x256x512_S1024x1_S1024x256x512_12_0_n_n_0_1_1256512.startIndexMap from fun h => absurd (List.mem_singleton.mp h) (by decide)), Nat.zero_add]
    rfl
  · unfold GatherDims.start
    rw [dif_neg (show ¬ (2 : Fin 3) ∈ gather_S32x256x512_S1024x1_S1024x256x512_12_0_n_n_0_1_1256512.startIndexMap from fun h => absurd (List.mem_singleton.mp h) (by decide)), Nat.zero_add]
    rfl

/-- The score of expert `e` at token `t`. -/
def score (X : FVec Ideal S1024x256 .bf16) (G : FVec Ideal S256x32 .bf16) (t : Fin 1024) (e : Fin 32) : EReal :=
  ∑ k : Fin 256, X (ix2 t k) * G (ix2 k e)

/-- The reference's unnormalised probability. -/
theorem mass_apply (X : FVec Ideal S1024x256 .bf16) (G : FVec Ideal S256x32 .bf16) (t : Fin 1024) (e : Fin 32) :
    val_main_v8 (F := Ideal) X G (ix2 t e) = mass (score X G t) e := by
  pointwise [val_main_v8, val_main_v7, val_main_v6, val_main_v5, val_main_v4, val_main_v3, val_main_cst, val_main_v1, val_main_v0]
  rw [ofBits_neg_inf]
  rfl

/-- The reference's probability: the mass over the row's sum of masses. -/
theorem prob_apply (X : FVec Ideal S1024x256 .bf16) (G : FVec Ideal S256x32 .bf16) (t : Fin 1024) (e : Fin 32) :
    val_main_v12 (F := Ideal) X G (ix2 t e) = Ideal.div (mass (score X G t) e) (∑ e, mass (score X G t) e) := by
  pointwise [val_main_v12, val_main_v11, val_main_v10, val_main_v9, val_main_cst_0]
  simp only [mass_apply]

/-- Two comparisons and a conjunction say that an index word reads below thirty-two. -/
theorem in_range (b : BitVec 32) :
    (Finset.univ : Finset (Fin 1)).fold IntOp.andi 1#1
        (fun _ => IntOp.andi (IntOp.cmpi CmpIPredicate.sge b 0#32) (IntOp.cmpi CmpIPredicate.sle b 31#32))
      = if b.toNat < 32 then 1#1 else 0#1 := by
  rw [Finset.univ_unique, Finset.fold_singleton]
  have h : b.toInt = if 2 * b.toNat < 2 ^ 32 then (b.toNat : ℤ) else (b.toNat : ℤ) - 2 ^ 32 := BitVec.toInt_eq_toNat_cond b
  have h0 : (0#32 : BitVec 32).toInt = 0 := by decide
  have h31 : (31#32 : BitVec 32).toInt = 31 := by decide
  have hlt := b.isLt
  by_cases hb : b.toNat < 32
  · have h1 : (0#32).sle b = true := by rw [BitVec.sle_iff_toInt_le, h0, h]; split <;> omega
    have h2 : b.sle 31#32 = true := by rw [BitVec.sle_iff_toInt_le, h31, h]; split <;> omega
    simp [IntOp.andi, IntOp.cmpi, h1, h2, hb]
  · rw [if_neg hb]
    by_cases h1 : (0#32).sle b = true
    · have h2 : b.sle 31#32 = false := by
        rw [Bool.eq_false_iff, Ne, BitVec.sle_iff_toInt_le, h31]
        rw [BitVec.sle_iff_toInt_le, h0] at h1
        rw [h] at h1 ⊢
        split at h1 <;> rename_i hs <;> simp only [hs, if_true, if_false] <;> omega
      simp [IntOp.andi, IntOp.cmpi, h2]
    · have h1' : (0#32).sle b = false := Bool.eq_false_iff.mpr h1
      simp [IntOp.andi, IntOp.cmpi, h1']

/-- A masked clamped entry is the entry the index word names, or zero. -/
theorem select_pick (f : Fin 32 → EReal) (b : BitVec 32) :
    Scalar.select (if b.toNat < 32 then 1#1 else 0#1) (f (clamp b)) 0 = pick f b := by
  unfold pick
  by_cases h : b.toNat < 32
  · rw [if_pos h, dif_pos h]
    have hc : clamp b = ⟨b.toNat, h⟩ := by
      refine Fin.ext ?_
      show min b.toInt.toNat 31 = b.toNat
      rw [BitVec.toInt_eq_toNat_cond]
      split <;> omega
    rw [hc]
    rfl
  · rw [if_neg h, dif_neg h]
    rfl

/-- The mask of the picked probabilities. -/
theorem mask_apply (I : IVec S1024x2 32) (t : Fin 1024) (s : Fin 2) :
    val_main_v20 (F := Ideal) I (ix2 t s) = if (I (ix2 t s)).toNat < 32 then 1#1 else 0#1 := by
  pointwise [val_main_v20, val_main_v19, val_main_v18, val_main_v17, val_main_v16, val_main_v15, val_main_v14, val_main_c, val_main_c_1, val_main_c_2, val_main_v13]
  exact in_range _

/-- The mask of the first column of index words. -/
theorem mask0_apply (I : IVec S1024x2 32) (t : Fin 1024) :
    val_main_v37 (F := Ideal) I (ix1 t) = if (I (ix2 t 0)).toNat < 32 then 1#1 else 0#1 := by
  pointwise [val_main_v37, val_main_v36, val_main_v35, val_main_v34, val_main_v33, val_main_v32, val_main_v31, val_main_v30, val_main_v29, val_main_v28, val_main_c_5, val_main_c_6, val_main_c_7]
  exact in_range _

/-- The mask of the second column of index words. -/
theorem mask1_apply (I : IVec S1024x2 32) (t : Fin 1024) :
    val_main_v52 (F := Ideal) I (ix1 t) = if (I (ix2 t 1)).toNat < 32 then 1#1 else 0#1 := by
  pointwise [val_main_v52, val_main_v51, val_main_v50, val_main_v49, val_main_v48, val_main_v47, val_main_v46, val_main_v45, val_main_v44, val_main_v43, val_main_c_9, val_main_c_10, val_main_c_11]
  exact in_range _

/-- An entry of each row's probabilities, by its index word. -/
theorem picked_apply (X : FVec Ideal S1024x256 .bf16) (G : FVec Ideal S256x32 .bf16) (I : IVec S1024x2 32) (t : Fin 1024) (s : Fin 2) :
    val_main_v23 (F := Ideal) X G I (ix2 t s)
      = pick (fun e => Ideal.div (mass (score X G t) e) (∑ e, mass (score X G t) e)) (I (ix2 t s)) := by
  have hg : val_main_v21 (F := Ideal) X G I (ix2 t s) = val_main_v12 (F := Ideal) X G (ix2 t (clamp (I (ix2 t s)))) := by
    refine (take_entry _ _ t s).trans ?_
    congr 3
    pointwise [val_main_v13]
  pointwise [val_main_v23, val_main_v22, val_main_cst_3]
  rw [mask_apply, hg, prob_apply]
  exact select_pick (fun e => Ideal.div (mass (score X G t) e) (∑ e, mass (score X G t) e)) _

/-- A token's matrix by its first index word. -/
theorem matrix0_apply (I : IVec S1024x2 32) (W : FVec Ideal S32x256x512 .bf16) (t : Fin 1024) (d : Fin 256) (n : Fin 512) :
    val_main_v41 (F := Ideal) I W (ix3 t d n) = pick (fun e => W (ix3 e d n)) (I (ix2 t 0)) := by
  have hg : val_main_v38 (F := Ideal) I W (ix3 t d n) = W (ix3 (clamp (I (ix2 t 0))) d n) := by
    refine (take_matrix _ _ t d n).trans ?_
    have hi : val_main_v30 (F := Ideal) I (ix2 t 0) = I (ix2 t 0) := by
      pointwise [val_main_v30, val_main_v29, val_main_v28]
    rw [hi]
    pointwise [val_main_v2]
  pointwise [val_main_v41, val_main_v40, val_main_v39, val_main_cst_8]
  rw [mask0_apply, hg]
  exact select_pick (fun e => W (ix3 e d n)) _

/-- A token's matrix by its second index word. -/
theorem matrix1_apply (I : IVec S1024x2 32) (W : FVec Ideal S32x256x512 .bf16) (t : Fin 1024) (d : Fin 256) (n : Fin 512) :
    val_main_v56 (F := Ideal) I W (ix3 t d n) = pick (fun e => W (ix3 e d n)) (I (ix2 t 1)) := by
  have hg : val_main_v53 (F := Ideal) I W (ix3 t d n) = W (ix3 (clamp (I (ix2 t 1))) d n) := by
    refine (take_matrix _ _ t d n).trans ?_
    have hi : val_main_v45 (F := Ideal) I (ix2 t 0) = I (ix2 t 1) := by
      pointwise [val_main_v45, val_main_v44, val_main_v43]
    rw [hi]
    pointwise [val_main_v2]
  pointwise [val_main_v56, val_main_v55, val_main_v54, val_main_cst_12]
  rw [mask1_apply, hg]
  exact select_pick (fun e => W (ix3 e d n)) _

/-- The reference at token `t` and column `n`: each of the two named experts' product, weighted by its share of the two
    probabilities. -/
theorem value_apply (X : FVec Ideal S1024x256 .bf16) (G : FVec Ideal S256x32 .bf16) (I : IVec S1024x2 32)
    (W : FVec Ideal S32x256x512 .bf16) (t : Fin 1024) (n : Fin 512) :
    val_main_v64 (F := Ideal) X G I W (ix2 t n)
      = share (fun e => Ideal.div (mass (score X G t) e) (∑ e, mass (score X G t) e)) (I (ix2 t 0)) (I (ix2 t 1)) (I (ix2 t 0))
          * (∑ d, X (ix2 t d) * pick (fun e => W (ix3 e d n)) (I (ix2 t 0)))
        + share (fun e => Ideal.div (mass (score X G t) e) (∑ e, mass (score X G t) e)) (I (ix2 t 0)) (I (ix2 t 1)) (I (ix2 t 1))
          * ∑ d, X (ix2 t d) * pick (fun e => W (ix3 e d n)) (I (ix2 t 1)) := by
  unfold share
  pointwise [val_main_v64, val_main_v63, val_main_v62, val_main_v61, val_main_v60, val_main_v59, val_main_v58, val_main_v57,
    val_main_v42, val_main_v27, val_main_v26, val_main_v25, val_main_v24, val_main_cst_4, val_main_v0]
  simp only [Fin.sum_univ_two, picked_apply, matrix0_apply, matrix1_apply]

end Cert.RefValue

end
-- ==== Proof.Value.lean ====
/- The kernel's result blocks are the reference's result, cut along the tokens. -/
module

public import proofs.«01_k».proof.Proof.Frames
public import proofs.«01_k».proof.Proof.Partial
public import proofs.«01_k».proof.Proof.RefValue
public import proofs.«01_k».proof.Defs

@[expose] public section

set_option maxRecDepth 16384

noncomputable section

namespace Cert.Exchange

open Cert.KernelIdeal Cert.KernelIdeal.Gen
open Idealize.ShloMosaic
open Idealize.ShloMosaic.TcCoe
open Idealize.SL.Sem
open Cert.Mixture

/-- The side conditions of the finiteness predicate over a device's arrays. -/
theorem facts_finite : Cert.Pre_finite_KernelIdeal.Facts where
  bcast_S_S1024x256 := by decide
  bcast_S_S256x32 := by decide

/-- The side conditions of the finiteness predicate over the reference's arrays. -/
theorem facts_finite_reference : Cert.Pre_finite_ReferenceIdeal.Facts where
  bcast_S_S1024x256 := by decide
  bcast_S_S256x32 := by decide

/-- A value whose absolute value is below the pattern of infinity is a real. -/
theorem real_of_below {x : EReal} (h : Ideal.cmp CmpFPredicate.olt (max x (-x)) (Ideal.ofBits FTy.bf16 0x7F80#16) = 1#1) :
    ∃ r : ℝ, x = r := by
  have ht : Ideal.ofBits FTy.bf16 0x7F80#16 = (⊤ : EReal) := by simp [Ideal.ofBits, Ideal.ieee]
  rw [ht] at h
  induction x with
  | bot => simp [Ideal.cmp] at h
  | top => simp [Ideal.cmp] at h
  | coe r => exact ⟨r, rfl⟩

/-- The expert's number, device by device and expert by expert, counts every expert once. -/
theorem expert_bijective : Function.Bijective fun p : Dev nD × Fin 4 => expert p.1 p.2 := by
  refine (Fintype.bijective_iff_injective_and_card _).mpr ⟨?_, rfl⟩
  rintro ⟨s, j⟩ ⟨s', j'⟩ h
  have hv : 4 * s.val + j.val = 4 * s'.val + j'.val := congrArg Fin.val h
  have := j.isLt
  have := j'.isLt
  exact Prod.ext (Fin.ext (by show s.val = s'.val; omega)) (Fin.ext (by show j.val = j'.val; omega))

/-- Summing over devices and their experts is summing over all experts. -/
theorem sum_experts (f : Fin 32 → EReal) : ∑ s : Dev nD, ∑ j : Fin 4, f (expert s j) = ∑ e : Fin 32, f e := by
  rw [← Fintype.sum_prod_type' (fun s j => f (expert s j))]
  exact Fintype.sum_bijective _ expert_bijective _ _ fun _ => rfl

/-- What a device writes at a row and a column, when every device holds the same tokens, router matrix and index words and
    its own four of the expert matrices, is the reference's value at that token and column. -/
theorem outV_value (m : (ℓ : Loc nD τ sig) → Buf (Elt Ideal) ℓ) (X : FVec Ideal S1024x256 .bf16) (G : FVec Ideal S256x32 .bf16)
    (I : IVec S1024x2 32) (W : FVec Ideal ⟨3, ![32, 256, 512]⟩ .bf16)
    (hx : ∀ s, xV m s = X) (hg : ∀ s, gV m s = G) (hi : ∀ s, iV m s = I)
    (hw : ∀ s (j : Fin 4) (d : Fin 256) (n : Fin 512), wV m s (ix3 j d n) = W (ix3 (expert s j) d n))
    (fx : ∀ t k, ∃ r : ℝ, X (ix2 t k) = r) (fg : ∀ k e, ∃ r : ℝ, G (ix2 k e) = r)
    (c : Dev nD) (p : Fin 128) (n : Fin 512) :
    outV m c (ix2 p n) = Cert.ReferenceIdeal.Read.val_main_v64 (F := Ideal) X G I W (ix2 (tok c p) n) := by
  have hk : ∀ s (j : Fin 4), kV m s (ix2 (tok c p) j)
      = coef (mass (scoreAt X G (tok c p))) (I (ix2 (tok c p) 0)) (I (ix2 (tok c p) 1)) (expert s j) := by
    intro s j
    rw [kV_apply, hx, hg, hi]
  have hd : ∀ s, devPart (xV m s) (kV m s) (wV m s) (tok c p) n
      = ∑ j : Fin 4, ∑ d : Fin 256, (X (ix2 (tok c p) d)
          * coef (mass (scoreAt X G (tok c p))) (I (ix2 (tok c p) 0)) (I (ix2 (tok c p) 1)) (expert s j)) * W (ix3 (expert s j) d n) := by
    intro s
    refine Finset.sum_congr rfl fun j _ => Finset.sum_congr rfl fun d _ => ?_
    rw [hk, hw, hx]
  rw [outV_apply, Finset.sum_congr rfl fun s _ => hd s]
  refine (sum_experts fun e => ∑ d : Fin 256, (X (ix2 (tok c p) d)
      * coef (mass (scoreAt X G (tok c p))) (I (ix2 (tok c p) 0)) (I (ix2 (tok c p) 1)) e) * W (ix3 e d n)).trans ?_
  refine (mixture (scoreAt X G (tok c p)) (fun e => dot_real _ _ (fx (tok c p)) fun k => fg k e)
    (fun d => X (ix2 (tok c p) d)) (fun e d => W (ix3 e d n)) _ _).trans ?_
  exact (Cert.RefValue.value_apply X G I W (tok c p) n).symm

/-- Under the finiteness predicate the tokens and the router's matrix are reals. -/
theorem reals [Cert.Pre_finite_KernelIdeal.Facts] (m : (ℓ : Loc nD τ sig) → Buf (Elt Ideal) ℓ)
    (h : Cert.Pre_KernelIdeal_finite_KernelIdeal m) (c : Dev nD) :
    (∀ i, ∃ r : ℝ, m ((c.tc : Thread nD τ).loc main_arg0) i = (r : EReal))
    ∧ ∀ i, ∃ r : ℝ, m ((c.tc : Thread nD τ).loc main_arg1) i = (r : EReal) :=
  ⟨fun i => real_of_below (congrFun (h c).1 i), fun i => real_of_below (congrFun (h c).2 i)⟩

/-- The value claim: from finite tokens and a finite router matrix, each device's result is its block of the reference's. -/
theorem algebraic [Cert.Pre_finite_KernelIdeal.Facts] : Cert.algebraic_KernelIdeal_ReferenceIdeal_pre_finite_KernelIdeal := by
  intro m g m' g' hp hm
  refine ⟨Cert.ReferenceIdeal.Read.val_main_v64 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run defs _ _).mono (fun r h c => ⟨((h.1 c).1).trans ?_, (h.1 c).2⟩) (run_arrays (F := Ideal) m g)
    funext i
    obtain ⟨p, n, rfl⟩ : ∃ (p : Fin 128) (n : Fin 512), i = ix2 p n := ⟨i 0, i 1, eq_ix2 i⟩
    have hr := reals m hp 0
    refine (outV_value m _ _ _
      (m' (((0 : Dev Cert.ReferenceIdeal.nD).tc : Thread Cert.ReferenceIdeal.nD Cert.ReferenceIdeal.τ).loc Cert.ReferenceIdeal.main_arg3))
      (fun s => (xV_eq m s).trans (hm s).1) (fun s => (gV_eq m s).trans (hm s).2.1)
      (fun s => (iV_eq m s).trans (hm s).2.2.1) ?_ ?_ ?_ c p n).trans ?_
    · intro s j d n
      rw [wV_eq, (hm s).2.2.2]
      refine congrArg (m' _) (funext fun a => Fin.ext ?_)
      match a with
      | ⟨0, _⟩ => exact congrArg (· + j.val) (Nat.mul_comm s.val 4)
      | ⟨1, _⟩ => rfl
      | ⟨2, _⟩ => rfl
    · intro t k
      have := hr.1 (ix2 t k)
      rwa [(hm 0).1] at this
    · intro k e
      have := hr.2 (ix2 k e)
      rwa [(hm 0).2.1] at this
    · refine congrArg (Cert.ReferenceIdeal.Read.val_main_v64 (F := Ideal) _ _ _ _) (funext fun a => Fin.ext ?_)
      match a with
      | ⟨0, _⟩ => exact congrArg (· + p.val) (Nat.mul_comm 128 c.val)
      | ⟨1, _⟩ => rfl
  · exact (θ_run Cert.ReferenceIdeal.defs _ _).mono (fun r h =>
      ⟨(h 0).1.trans (Cert.ReferenceIdeal.Read.val_main_v64_eq (F := Ideal) m' 0), (h 0).2⟩)
      (Cert.ReferenceIdeal.Value.run (F := Ideal) m' g')

end Cert.Exchange

end
-- ==== Proof.lean ====
module

public import proofs.«01_k».proof.Proof.Gen.ReferenceIdeal.Run
public import proofs.«01_k».proof.Proof.Gen.ReferenceIdeal.Read
public import proofs.«01_k».proof.Proof.Frames
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The whole claim: the frames, with and without the precondition; that idealizing replaced nothing; and that kernel and
    reference compute the same function. -/
theorem claim : Cert.Claim := by
  have hp : Cert.Pre_finite_KernelIdeal.Facts := Cert.Exchange.facts_finite
  have hq : Cert.Pre_finite_ReferenceIdeal.Facts := Cert.Exchange.facts_finite_reference
  exact ⟨Cert.Kernel.Gen.facts, Cert.KernelIdeal.Gen.facts, Cert.ReferenceIdeal.Gen.facts, hp, hq,
    Cert.Exchange.frame_kernel, Cert.Exchange.frame_ideal, fun m g _ => Cert.Exchange.frame_ideal m g trivial,
    Cert.Exchange.frame_reference, fun m g _ => Cert.Exchange.frame_reference m g trivial, trivial, Cert.Exchange.algebraic⟩

end Cert.Proof

end
